-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_near_pre_finite [hKernelIdeal : Cert.KernelIdeal.Facts] [hPre_finite : Cert.Pre_finite.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_near.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_near : Cert.Post_near.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_near_pre_finite (hKernelIdeal := hKernelIdeal) (hPre_finite := hPre_finite) (hPost_near := hPost_near)
-- ==== Post_near.lean ====
abbrev S8x128x256 : Shape := ⟨3, ![8, 128, 256]⟩
abbrev S8x129x257 : Shape := ⟨3, ![8, 129, 257]⟩
abbrev S_ : Shape := ⟨0, ![]⟩
abbrev S1x8x128x256 : Shape := ⟨4, ![1, 8, 128, 256]⟩
abbrev S3x8x128x256 : Shape := ⟨4, ![3, 8, 128, 256]⟩

class Facts : Prop where
  bcast_S_S8x129x257 : S_.BroadcastsInDim S8x129x257 (![] : Fin 0 → Fin S8x129x257.rank)
  pads_S8x128x256_S8x129x257_000_100_100 : S8x128x256.Pads (![0, 1, 1] : Fin 3 → Nat) ![0, 0, 0] ![0, 0, 0] S8x129x257
  h_S_ : 0 < S_.numel
  slices_S8x129x257_S8x128x256_0_0_1 : S8x129x257.Slices ![0, 0, 1] S8x128x256
  slices_S8x129x257_S8x128x256_0_1_0 : S8x129x257.Slices ![0, 1, 0] S8x128x256
  slices_S8x129x257_S8x128x256_0_0_0 : S8x129x257.Slices ![0, 0, 0] S8x128x256
  bcast_S8x128x256_S1x8x128x256_1_2_3 : S8x128x256.BroadcastsInDim S1x8x128x256 (![1, 2, 3] : Fin 3 → Fin S1x8x128x256.rank)
  concatenates_S1x8x128x256_S1x8x128x256_S1x8x128x256_S3x8x128x256_d0 : Shape.Concatenates [S1x8x128x256, S1x8x128x256, S1x8x128x256] S3x8x128x256 0
  bcast_S1x8x128x256_S3x8x128x256_0_1_2_3 : S1x8x128x256.BroadcastsInDim S3x8x128x256 (![0, 1, 2, 3] : Fin 4 → Fin S3x8x128x256.rank)
  reducesTo_S3x8x128x256_S8x128x256_d0 : S3x8x128x256.ReducesTo [0] S8x128x256
  bcast_S_S8x128x256 : S_.BroadcastsInDim S8x128x256 (![] : Fin 0 → Fin S8x128x256.rank)

variable [Facts]

def fn_where {F : FTy → Type} [FloatOps F] (arg0 : IVec S8x129x257 1) (arg1 : FVec F S_ .f32) (arg2 : FVec F S_ .f32) : FVec F S8x129x257 .f32 :=
  let v0 : FVec F S8x129x257 .f32 := broadcastInDim S8x129x257 ![] bcast_S_S8x129x257 arg1
  let v1 : FVec F S8x129x257 .f32 := broadcastInDim S8x129x257 ![] bcast_S_S8x129x257 arg2
  let v2 : FVec F S8x129x257 .f32 := select arg0 v0 v1
  v2

def fn_pad {F : FTy → Type} [FloatOps F] (arg0 : FVec F S8x128x256 .f32) (arg1 : IVec S_ 32) : FVec F S8x129x257 .f32 :=
  let v0 : FVec F S_ .f32 := sitofp .f32 arg1
  let v1 : FVec F S8x129x257 .f32 := (fun x v => pad S8x129x257 ![0, 1, 1] ![0, 0, 0] ![0, 0, 0] x v pads_S8x128x256_S8x129x257_000_100_100 h_S_) arg0 v0
  v1

def fn_where_0 {F : FTy → Type} [FloatOps F] (arg0 : IVec S8x129x257 1) (arg1 : FVec F S8x129x257 .f32) (arg2 : FVec F S8x129x257 .f32) : FVec F S8x129x257 .f32 :=
  let v0 : FVec F S8x129x257 .f32 := id arg2
  let v1 : FVec F S8x129x257 .f32 := select arg0 arg1 v0
  v1

def fn_part1 {F : FTy → Type} [FloatOps F] (main_arg0 : FVec F S8x128x256 .f32) (main_arg1 : FVec F S8x128x256 .f32) (main_v14 : FVec F S8x129x257 .f32) (main_v15 : FVec F S8x128x256 .f32) (main_v16 : FVec F S8x128x256 .f32) : IVec S8x128x256 1 :=
  let main_v17 : FVec F S8x128x256 .f32 := (extractStridedSlice S8x128x256 ![0, 0, 0] · slices_S8x129x257_S8x128x256_0_0_0) main_v14
  let main_v18 : FVec F S1x8x128x256 .f32 := broadcastInDim S1x8x128x256 ![1, 2, 3] bcast_S8x128x256_S1x8x128x256_1_2_3 main_v15
  let main_v19 : FVec F S1x8x128x256 .f32 := broadcastInDim S1x8x128x256 ![1, 2, 3] bcast_S8x128x256_S1x8x128x256_1_2_3 main_v16
  let main_v20 : FVec F S1x8x128x256 .f32 := broadcastInDim S1x8x128x256 ![1, 2, 3] bcast_S8x128x256_S1x8x128x256_1_2_3 main_v17
  let main_v21 : FVec F S3x8x128x256 .f32 := concatenate S3x8x128x256 0 [⟨S1x8x128x256, main_v18⟩, ⟨S1x8x128x256, main_v19⟩, ⟨S1x8x128x256, main_v20⟩] concatenates_S1x8x128x256_S1x8x128x256_S1x8x128x256_S3x8x128x256_d0
  let main_v22 : FVec F S1x8x128x256 .f32 := broadcastInDim S1x8x128x256 ![1, 2, 3] bcast_S8x128x256_S1x8x128x256_1_2_3 main_arg0
  let main_v23 : FVec F S3x8x128x256 .f32 := broadcastInDim S3x8x128x256 ![0, 1, 2, 3] bcast_S1x8x128x256_S3x8x128x256_0_1_2_3 main_v22
  let main_v24 : FVec F S3x8x128x256 .f32 := addf main_v21 main_v23
  let main_cst_5 : FVec F S_ .f32 := constant S_ .f32 0xFF800000#32
  let main_v25 : FVec F S8x128x256 .f32 := (fun x v => Host.reduce FloatOps.maximumf x v reducesTo_S3x8x128x256_S8x128x256_d0 h_S_) main_v24 main_cst_5
  let main_v26 : FVec F S1x8x128x256 .f32 := broadcastInDim S1x8x128x256 ![1, 2, 3] bcast_S8x128x256_S1x8x128x256_1_2_3 main_v25
  let main_v27 : FVec F S3x8x128x256 .f32 := broadcastInDim S3x8x128x256 ![0, 1, 2, 3] bcast_S1x8x128x256_S3x8x128x256_0_1_2_3 main_v26
  let main_v28 : FVec F S3x8x128x256 .f32 := subf main_v24 main_v27
  let main_v29 : FVec F S3x8x128x256 .f32 := Host.exp main_v28
  let main_cst_6 : FVec F S_ .f32 := constant S_ .f32 0x00000000#32
  let main_v30 : FVec F S8x128x256 .f32 := (fun x v => Host.reduceAdd x v reducesTo_S3x8x128x256_S8x128x256_d0 h_S_) main_v29 main_cst_6
  let main_v31 : FVec F S8x128x256 .f32 := Host.log main_v30
  let main_v32 : FVec F S8x128x256 .f32 := addf main_v31 main_v25
  let main_v33 : FVec F S8x128x256 .f32 := subf main_v32 main_arg1
  let main_v34 : FVec F S8x128x256 .f32 := Host.absf main_v33
  let main_cst_7 : FVec F S_ .f32 := constant S_ .f32 0x3BB43958#32
  let main_v35 : FVec F S8x128x256 .f32 := broadcastInDim S8x128x256 ![] bcast_S_S8x128x256 main_cst_7
  let main_v36 : IVec S8x128x256 1 := cmpf .ole main_v34 main_v35
  main_v36

def fn {F : FTy → Type} [FloatOps F] (main_arg0 : FVec F S8x128x256 .f32) (main_arg1 : FVec F S8x128x256 .f32) : IVec S8x128x256 1 :=
  let main_v0 : IVec S8x129x257 32 := iotaInDim S8x129x257 32 1
  let main_v1 : IVec S8x129x257 32 := iotaInDim S8x129x257 32 2
  let main_c : IVec S_ 32 := constantI S_ 32 0#32
  let main_v2 : IVec S8x129x257 32 := broadcastInDim S8x129x257 ![] bcast_S_S8x129x257 main_c
  let main_v3 : IVec S8x129x257 1 := cmpi .eq main_v0 main_v2
  let main_c_0 : IVec S_ 32 := constantI S_ 32 0#32
  let main_v4 : IVec S8x129x257 32 := broadcastInDim S8x129x257 ![] bcast_S_S8x129x257 main_c_0
  let main_v5 : IVec S8x129x257 1 := cmpi .eq main_v1 main_v4
  let main_v6 : IVec S8x129x257 1 := andi main_v3 main_v5
  let main_cst : FVec F S_ .f32 := constant S_ .f32 0x00000000#32
  let main_cst_1 : FVec F S_ .f32 := constant S_ .f32 0xE0AD78EC#32
  let main_v7 : FVec F S8x129x257 .f32 := fn_where (F := F) main_v6 main_cst main_cst_1
  let main_c_2 : IVec S_ 32 := constantI S_ 32 0#32
  let main_v8 : FVec F S8x129x257 .f32 := fn_pad (F := F) main_arg1 main_c_2
  let main_c_3 : IVec S_ 32 := constantI S_ 32 0#32
  let main_v9 : IVec S8x129x257 32 := broadcastInDim S8x129x257 ![] bcast_S_S8x129x257 main_c_3
  let main_v10 : IVec S8x129x257 1 := cmpi .sgt main_v0 main_v9
  let main_c_4 : IVec S_ 32 := constantI S_ 32 0#32
  let main_v11 : IVec S8x129x257 32 := broadcastInDim S8x129x257 ![] bcast_S_S8x129x257 main_c_4
  let main_v12 : IVec S8x129x257 1 := cmpi .sgt main_v1 main_v11
  let main_v13 : IVec S8x129x257 1 := andi main_v10 main_v12
  let main_v14 : FVec F S8x129x257 .f32 := fn_where_0 (F := F) main_v13 main_v8 main_v7
  let main_v15 : FVec F S8x128x256 .f32 := (extractStridedSlice S8x128x256 ![0, 0, 1] · slices_S8x129x257_S8x128x256_0_0_1) main_v14
  let main_v16 : FVec F S8x128x256 .f32 := (extractStridedSlice S8x128x256 ![0, 1, 0] · slices_S8x129x257_S8x128x256_0_1_0) main_v14
  fn_part1 (F := F) main_arg0 main_arg1 main_v14 main_v15 main_v16
-- ==== Pre_finite.lean ====
abbrev S8x128x256 : Shape := ⟨3, ![8, 128, 256]⟩
abbrev S_ : Shape := ⟨0, ![]⟩

class Facts : Prop where
  bcast_S_S8x128x256 : S_.BroadcastsInDim S8x128x256 (![] : Fin 0 → Fin S8x128x256.rank)

variable [Facts]

def fn {F : FTy → Type} [FloatOps F] (main_arg0 : FVec F S8x128x256 .f32) : IVec S8x128x256 1 :=
  let main_v0 : FVec F S8x128x256 .f32 := Host.absf main_arg0
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  main_v2
-- ==== Kernel.lean ====
abbrev S8x128x256 : Shape := ⟨3, ![8, 128, 256]⟩
abbrev S8x32768 : Shape := ⟨2, ![8, 32768]⟩
abbrev S32768 : Shape := ⟨1, ![32768]⟩
abbrev S_ : Shape := ⟨0, ![]⟩
abbrev S1x32768 : Shape := ⟨2, ![1, 32768]⟩
abbrev S16 : Shape := ⟨1, ![16]⟩
abbrev S1 : Shape := ⟨1, ![1]⟩
abbrev S15 : Shape := ⟨1, ![15]⟩

abbrev nBuf : Table → Nat
  | .hbm => 4
  | .local .scVector .vmem => 2
  | _ => 0

abbrev bufTy : (tb : Table) → Fin (nBuf tb) → BufTy
  | .hbm, ⟨0, _⟩ => ⟨S8x128x256, .f32⟩
  | .hbm, ⟨1, _⟩ => ⟨S8x32768, .f32⟩
  | .hbm, ⟨2, _⟩ => ⟨S8x32768, .f32⟩
  | .hbm, ⟨3, _⟩ => ⟨S8x128x256, .f32⟩
  | .local .scVector .vmem, ⟨0, _⟩ => ⟨S32768, .f32⟩
  | .local .scVector .vmem, ⟨1, _⟩ => ⟨S32768, .f32⟩
  | _, _ => ⟨S8x128x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c8_i32 : BitVec 32 := 8#32
  let v1 : BitVec 1 := Scalar.cmpi .slt arg1 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c0_i32_76_r0 : BitVec 32 := 0#32
  ![arg1.toNat, 0]
@[reducible] def k0_t1_loop : Scf.Loop 32 :=
  let c0_i32_11 : BitVec 32 := 0#32
  let c16_i32 : BitVec 32 := 16#32
  let v44 : BitVec 32 := Scalar.addi c0_i32_11 c16_i32
  let c1_i32_12 : BitVec 32 := 1#32
  ⟨c0_i32_11, v44, c1_i32_12⟩

def k0_chk1 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx1_inb : ∀ (i : grid0.Coords) (v82 : IVec S16 32) (k0_hw1 : k0_chk1 i v82), ∀ (k0_h1 : k0_cond1 i = 1#1), ∀ a x, ((![v82] : Fin 1 → IVec S16 32) a x).toNat < S32768.size a := fun i v82 k0_hw1 k0_h1 => k0_hw1.1 k0_h1
theorem k0_idx2_inb : ∀ (i : grid0.Coords) (v82 : IVec S16 32) (k0_hw1 : k0_chk1 i v82), ∀ (k0_h1 : k0_cond1 i = 1#1), ∀ a x, ((![v82] : Fin 1 → IVec S16 32) a x).toNat < S32768.size a := fun i v82 k0_hw1 k0_h1 => k0_hw1.2 k0_h1
@[reducible] def k0_t2_loop : Scf.Loop 32 :=
  let c0_i32_14 : BitVec 32 := 0#32
  let c16_i32_15 : BitVec 32 := 16#32
  let v46 : BitVec 32 := Scalar.addi c0_i32_14 c16_i32_15
  let c1_i32_16 : BitVec 32 := 1#32
  ⟨c0_i32_14, v46, c1_i32_16⟩

def k0_chk2 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx3_inb : ∀ (i : grid0.Coords) (v82 : IVec S16 32) (k0_hw2 : k0_chk2 i v82), ∀ (k0_h1 : k0_cond1 i = 1#1), ∀ a x, ((![v82] : Fin 1 → IVec S16 32) a x).toNat < S32768.size a := fun i v82 k0_hw2 k0_h1 => k0_hw2.1 k0_h1
theorem k0_idx4_inb : ∀ (i : grid0.Coords) (v82 : IVec S16 32) (k0_hw2 : k0_chk2 i v82), ∀ (k0_h1 : k0_cond1 i = 1#1), ∀ a x, ((![v82] : Fin 1 → IVec S16 32) a x).toNat < S32768.size a := fun i v82 k0_hw2 k0_h1 => k0_hw2.2 k0_h1

def k0_chk3 (i : grid0.Coords) (v112 : IVec S16 32) : Prop :=
  (∀ (k0_h1 : k0_cond1 i = 1#1), ∀ a x, ((![v112] : Fin 1 → IVec S16 32) a x).toNat < S32768.size a) ∧
  (∀ (k0_h1 : k0_cond1 i = 1#1), ∀ a x, ((![v112] : Fin 1 → IVec S16 32) a x).toNat < S32768.size a)
theorem k0_idx5_inb : ∀ (i : grid0.Coords) (v112 : IVec S16 32) (k0_hw3 : k0_chk3 i v112), ∀ (k0_h1 : k0_cond1 i = 1#1), ∀ a x, ((![v112] : Fin 1 → IVec S16 32) a x).toNat < S32768.size a := fun i v112 k0_hw3 k0_h1 => k0_hw3.1 k0_h1
theorem k0_idx6_inb : ∀ (i : grid0.Coords) (v112 : IVec S16 32) (k0_hw3 : k0_chk3 i v112), ∀ (k0_h1 : k0_cond1 i = 1#1), ∀ a x, ((![v112] : Fin 1 → IVec S16 32) a x).toNat < S32768.size a := fun i v112 k0_hw3 k0_h1 => k0_hw3.2 k0_h1
@[reducible] def k0_t3_loop : Scf.Loop 32 :=
  let c0_i32_18 : BitVec 32 := 0#32
  let c16_i32_19 : BitVec 32 := 16#32
  let v48 : BitVec 32 := Scalar.addi c0_i32_18 c16_i32_19
  let c1_i32_20 : BitVec 32 := 1#32
  ⟨c0_i32_18, v48, c1_i32_20⟩

def k0_chk4 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx7_inb : ∀ (i : grid0.Coords) (v82 : IVec S16 32) (k0_hw4 : k0_chk4 i v82), ∀ (k0_h1 : k0_cond1 i = 1#1), ∀ a x, ((![v82] : Fin 1 → IVec S16 32) a x).toNat < S32768.size a := fun i v82 k0_hw4 k0_h1 => k0_hw4.1 k0_h1
theorem k0_idx8_inb : ∀ (i : grid0.Coords) (v82 : IVec S16 32) (k0_hw4 : k0_chk4 i v82), ∀ (k0_h1 : k0_cond1 i = 1#1), ∀ a x, ((![v82] : Fin 1 → IVec S16 32) a x).toNat < S32768.size a := fun i v82 k0_hw4 k0_h1 => k0_hw4.2 k0_h1

def k0_chk5 (i : grid0.Coords) (v112 : IVec S16 32) : Prop :=
  (∀ (k0_h1 : k0_cond1 i = 1#1), ∀ a x, ((![v112] : Fin 1 → IVec S16 32) a x).toNat < S32768.size a) ∧
  (∀ (k0_h1 : k0_cond1 i = 1#1), ∀ a x, ((![v112] : Fin 1 → IVec S16 32) a x).toNat < S32768.size a)
theorem k0_idx9_inb : ∀ (i : grid0.Coords) (v112 : IVec S16 32) (k0_hw5 : k0_chk5 i v112), ∀ (k0_h1 : k0_cond1 i = 1#1), ∀ a x, ((![v112] : Fin 1 → IVec S16 32) a x).toNat < S32768.size a := fun i v112 k0_hw5 k0_h1 => k0_hw5.1 k0_h1
theorem k0_idx10_inb : ∀ (i : grid0.Coords) (v112 : IVec S16 32) (k0_hw5 : k0_chk5 i v112), ∀ (k0_h1 : k0_cond1 i = 1#1), ∀ a x, ((![v112] : Fin 1 → IVec S16 32) a x).toNat < S32768.size a := fun i v112 k0_hw5 k0_h1 => k0_hw5.2 k0_h1

def k0_chk6 (i : grid0.Coords) (v145 : IVec S16 32) : Prop :=
  (∀ (k0_h1 : k0_cond1 i = 1#1), ∀ a x, ((![v145] : Fin 1 → IVec S16 32) a x).toNat < S32768.size a) ∧
  (∀ (k0_h1 : k0_cond1 i = 1#1), ∀ a x, ((![v145] : Fin 1 → IVec S16 32) a x).toNat < S32768.size a)
theorem k0_idx11_inb : ∀ (i : grid0.Coords) (v145 : IVec S16 32) (k0_hw6 : k0_chk6 i v145), ∀ (k0_h1 : k0_cond1 i = 1#1), ∀ a x, ((![v145] : Fin 1 → IVec S16 32) a x).toNat < S32768.size a := fun i v145 k0_hw6 k0_h1 => k0_hw6.1 k0_h1
theorem k0_idx12_inb : ∀ (i : grid0.Coords) (v145 : IVec S16 32) (k0_hw6 : k0_chk6 i v145), ∀ (k0_h1 : k0_cond1 i = 1#1), ∀ a x, ((![v145] : Fin 1 → IVec S16 32) a x).toNat < S32768.size a := fun i v145 k0_hw6 k0_h1 => k0_hw6.2 k0_h1
@[reducible] def k0_t4_loop : Scf.Loop 32 :=
  let c0_i32_22 : BitVec 32 := 0#32
  let c16_i32_23 : BitVec 32 := 16#32
  let v50 : BitVec 32 := Scalar.addi c0_i32_22 c16_i32_23
  let c1_i32_24 : BitVec 32 := 1#32
  ⟨c0_i32_22, v50, c1_i32_24⟩

def k0_chk7 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx13_inb : ∀ (i : grid0.Coords) (v82 : IVec S16 32) (k0_hw7 : k0_chk7 i v82), ∀ (k0_h1 : k0_cond1 i = 1#1), ∀ a x, ((![v82] : Fin 1 → IVec S16 32) a x).toNat < S32768.size a := fun i v82 k0_hw7 k0_h1 => k0_hw7.1 k0_h1
theorem k0_idx14_inb : ∀ (i : grid0.Coords) (v82 : IVec S16 32) (k0_hw7 : k0_chk7 i v82), ∀ (k0_h1 : k0_cond1 i = 1#1), ∀ a x, ((![v82] : Fin 1 → IVec S16 32) a x).toNat < S32768.size a := fun i v82 k0_hw7 k0_h1 => k0_hw7.2 k0_h1

def k0_chk8 (i : grid0.Coords) (v112 : IVec S16 32) : Prop :=
  (∀ (k0_h1 : k0_cond1 i = 1#1), ∀ a x, ((![v112] : Fin 1 → IVec S16 32) a x).toNat < S32768.size a) ∧
  (∀ (k0_h1 : k0_cond1 i = 1#1), ∀ a x, ((![v112] : Fin 1 → IVec S16 32) a x).toNat < S32768.size a)
theorem k0_idx15_inb : ∀ (i : grid0.Coords) (v112 : IVec S16 32) (k0_hw8 : k0_chk8 i v112), ∀ (k0_h1 : k0_cond1 i = 1#1), ∀ a x, ((![v112] : Fin 1 → IVec S16 32) a x).toNat < S32768.size a := fun i v112 k0_hw8 k0_h1 => k0_hw8.1 k0_h1
theorem k0_idx16_inb : ∀ (i : grid0.Coords) (v112 : IVec S16 32) (k0_hw8 : k0_chk8 i v112), ∀ (k0_h1 : k0_cond1 i = 1#1), ∀ a x, ((![v112] : Fin 1 → IVec S16 32) a x).toNat < S32768.size a := fun i v112 k0_hw8 k0_h1 => k0_hw8.2 k0_h1

def k0_chk9 (i : grid0.Coords) (v145 : IVec S16 32) : Prop :=
  (∀ (k0_h1 : k0_cond1 i = 1#1), ∀ a x, ((![v145] : Fin 1 → IVec S16 32) a x).toNat < S32768.size a) ∧
  (∀ (k0_h1 : k0_cond1 i = 1#1), ∀ a x, ((![v145] : Fin 1 → IVec S16 32) a x).toNat < S32768.size a)
theorem k0_idx17_inb : ∀ (i : grid0.Coords) (v145 : IVec S16 32) (k0_hw9 : k0_chk9 i v145), ∀ (k0_h1 : k0_cond1 i = 1#1), ∀ a x, ((![v145] : Fin 1 → IVec S16 32) a x).toNat < S32768.size a := fun i v145 k0_hw9 k0_h1 => k0_hw9.1 k0_h1
theorem k0_idx18_inb : ∀ (i : grid0.Coords) (v145 : IVec S16 32) (k0_hw9 : k0_chk9 i v145), ∀ (k0_h1 : k0_cond1 i = 1#1), ∀ a x, ((![v145] : Fin 1 → IVec S16 32) a x).toNat < S32768.size a := fun i v145 k0_hw9 k0_h1 => k0_hw9.2 k0_h1

def k0_chk10 (i : grid0.Coords) (v178 : IVec S16 32) : Prop :=
  (∀ (k0_h1 : k0_cond1 i = 1#1), ∀ a x, ((![v178] : Fin 1 → IVec S16 32) a x).toNat < S32768.size a) ∧
  (∀ (k0_h1 : k0_cond1 i = 1#1), ∀ a x, ((![v178] : Fin 1 → IVec S16 32) a x).toNat < S32768.size a)
theorem k0_idx19_inb : ∀ (i : grid0.Coords) (v178 : IVec S16 32) (k0_hw10 : k0_chk10 i v178), ∀ (k0_h1 : k0_cond1 i = 1#1), ∀ a x, ((![v178] : Fin 1 → IVec S16 32) a x).toNat < S32768.size a := fun i v178 k0_hw10 k0_h1 => k0_hw10.1 k0_h1
theorem k0_idx20_inb : ∀ (i : grid0.Coords) (v178 : IVec S16 32) (k0_hw10 : k0_chk10 i v178), ∀ (k0_h1 : k0_cond1 i = 1#1), ∀ a x, ((![v178] : Fin 1 → IVec S16 32) a x).toNat < S32768.size a := fun i v178 k0_hw10 k0_h1 => k0_hw10.2 k0_h1
@[reducible] def k0_t5_loop : Scf.Loop 32 :=
  let c0_i32_26 : BitVec 32 := 0#32
  let c16_i32_27 : BitVec 32 := 16#32
  let v52 : BitVec 32 := Scalar.addi c0_i32_26 c16_i32_27
  let c1_i32_28 : BitVec 32 := 1#32
  ⟨c0_i32_26, v52, c1_i32_28⟩

def k0_chk11 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx21_inb : ∀ (i : grid0.Coords) (v82 : IVec S16 32) (k0_hw11 : k0_chk11 i v82), ∀ (k0_h1 : k0_cond1 i = 1#1), ∀ a x, ((![v82] : Fin 1 → IVec S16 32) a x).toNat < S32768.size a := fun i v82 k0_hw11 k0_h1 => k0_hw11.1 k0_h1
theorem k0_idx22_inb : ∀ (i : grid0.Coords) (v82 : IVec S16 32) (k0_hw11 : k0_chk11 i v82), ∀ (k0_h1 : k0_cond1 i = 1#1), ∀ a x, ((![v82] : Fin 1 → IVec S16 32) a x).toNat < S32768.size a := fun i v82 k0_hw11 k0_h1 => k0_hw11.2 k0_h1

def k0_chk12 (i : grid0.Coords) (v112 : IVec S16 32) : Prop :=
  (∀ (k0_h1 : k0_cond1 i = 1#1), ∀ a x, ((![v112] : Fin 1 → IVec S16 32) a x).toNat < S32768.size a) ∧
  (∀ (k0_h1 : k0_cond1 i = 1#1), ∀ a x, ((![v112] : Fin 1 → IVec S16 32) a x).toNat < S32768.size a)
theorem k0_idx23_inb : ∀ (i : grid0.Coords) (v112 : IVec S16 32) (k0_hw12 : k0_chk12 i v112), ∀ (k0_h1 : k0_cond1 i = 1#1), ∀ a x, ((![v112] : Fin 1 → IVec S16 32) a x).toNat < S32768.size a := fun i v112 k0_hw12 k0_h1 => k0_hw12.1 k0_h1
theorem k0_idx24_inb : ∀ (i : grid0.Coords) (v112 : IVec S16 32) (k0_hw12 : k0_chk12 i v112), ∀ (k0_h1 : k0_cond1 i = 1#1), ∀ a x, ((![v112] : Fin 1 → IVec S16 32) a x).toNat < S32768.size a := fun i v112 k0_hw12 k0_h1 => k0_hw12.2 k0_h1

def k0_chk13 (i : grid0.Coords) (v145 : IVec S16 32) : Prop :=
  (∀ (k0_h1 : k0_cond1 i = 1#1), ∀ a x, ((![v145] : Fin 1 → IVec S16 32) a x).toNat < S32768.size a) ∧
  (∀ (k0_h1 : k0_cond1 i = 1#1), ∀ a x, ((![v145] : Fin 1 → IVec S16 32) a x).toNat < S32768.size a)
theorem k0_idx25_inb : ∀ (i : grid0.Coords) (v145 : IVec S16 32) (k0_hw13 : k0_chk13 i v145), ∀ (k0_h1 : k0_cond1 i = 1#1), ∀ a x, ((![v145] : Fin 1 → IVec S16 32) a x).toNat < S32768.size a := fun i v145 k0_hw13 k0_h1 => k0_hw13.1 k0_h1
theorem k0_idx26_inb : ∀ (i : grid0.Coords) (v145 : IVec S16 32) (k0_hw13 : k0_chk13 i v145), ∀ (k0_h1 : k0_cond1 i = 1#1), ∀ a x, ((![v145] : Fin 1 → IVec S16 32) a x).toNat < S32768.size a := fun i v145 k0_hw13 k0_h1 => k0_hw13.2 k0_h1

def k0_chk14 (i : grid0.Coords) (v178 : IVec S16 32) : Prop :=
  (∀ (k0_h1 : k0_cond1 i = 1#1), ∀ a x, ((![v178] : Fin 1 → IVec S16 32) a x).toNat < S32768.size a) ∧
  (∀ (k0_h1 : k0_cond1 i = 1#1), ∀ a x, ((![v178] : Fin 1 → IVec S16 32) a x).toNat < S32768.size a)
theorem k0_idx27_inb : ∀ (i : grid0.Coords) (v178 : IVec S16 32) (k0_hw14 : k0_chk14 i v178), ∀ (k0_h1 : k0_cond1 i = 1#1), ∀ a x, ((![v178] : Fin 1 → IVec S16 32) a x).toNat < S32768.size a := fun i v178 k0_hw14 k0_h1 => k0_hw14.1 k0_h1
theorem k0_idx28_inb : ∀ (i : grid0.Coords) (v178 : IVec S16 32) (k0_hw14 : k0_chk14 i v178), ∀ (k0_h1 : k0_cond1 i = 1#1), ∀ a x, ((![v178] : Fin 1 → IVec S16 32) a x).toNat < S32768.size a := fun i v178 k0_hw14 k0_h1 => k0_hw14.2 k0_h1

def k0_chk15 (i : grid0.Coords) (v211 : IVec S16 32) : Prop :=
  (∀ (k0_h1 : k0_cond1 i = 1#1), ∀ a x, ((![v211] : Fin 1 → IVec S16 32) a x).toNat < S32768.size a) ∧
  (∀ (k0_h1 : k0_cond1 i = 1#1), ∀ a x, ((![v211] : Fin 1 → IVec S16 32) a x).toNat < S32768.size a)
theorem k0_idx29_inb : ∀ (i : grid0.Coords) (v211 : IVec S16 32) (k0_hw15 : k0_chk15 i v211), ∀ (k0_h1 : k0_cond1 i = 1#1), ∀ a x, ((![v211] : Fin 1 → IVec S16 32) a x).toNat < S32768.size a := fun i v211 k0_hw15 k0_h1 => k0_hw15.1 k0_h1
theorem k0_idx30_inb : ∀ (i : grid0.Coords) (v211 : IVec S16 32) (k0_hw15 : k0_chk15 i v211), ∀ (k0_h1 : k0_cond1 i = 1#1), ∀ a x, ((![v211] : Fin 1 → IVec S16 32) a x).toNat < S32768.size a := fun i v211 k0_hw15 k0_h1 => k0_hw15.2 k0_h1
@[reducible] def k0_t6_loop : Scf.Loop 32 :=
  let c0_i32_30 : BitVec 32 := 0#32
  let c16_i32_31 : BitVec 32 := 16#32
  let v54 : BitVec 32 := Scalar.addi c0_i32_30 c16_i32_31
  let c1_i32_32 : BitVec 32 := 1#32
  ⟨c0_i32_30, v54, c1_i32_32⟩

def k0_chk16 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx31_inb : ∀ (i : grid0.Coords) (v82 : IVec S16 32) (k0_hw16 : k0_chk16 i v82), ∀ (k0_h1 : k0_cond1 i = 1#1), ∀ a x, ((![v82] : Fin 1 → IVec S16 32) a x).toNat < S32768.size a := fun i v82 k0_hw16 k0_h1 => k0_hw16.1 k0_h1
theorem k0_idx32_inb : ∀ (i : grid0.Coords) (v82 : IVec S16 32) (k0_hw16 : k0_chk16 i v82), ∀ (k0_h1 : k0_cond1 i = 1#1), ∀ a x, ((![v82] : Fin 1 → IVec S16 32) a x).toNat < S32768.size a := fun i v82 k0_hw16 k0_h1 => k0_hw16.2 k0_h1

def k0_chk17 (i : grid0.Coords) (v112 : IVec S16 32) : Prop :=
  (∀ (k0_h1 : k0_cond1 i = 1#1), ∀ a x, ((![v112] : Fin 1 → IVec S16 32) a x).toNat < S32768.size a) ∧
  (∀ (k0_h1 : k0_cond1 i = 1#1), ∀ a x, ((![v112] : Fin 1 → IVec S16 32) a x).toNat < S32768.size a)
theorem k0_idx33_inb : ∀ (i : grid0.Coords) (v112 : IVec S16 32) (k0_hw17 : k0_chk17 i v112), ∀ (k0_h1 : k0_cond1 i = 1#1), ∀ a x, ((![v112] : Fin 1 → IVec S16 32) a x).toNat < S32768.size a := fun i v112 k0_hw17 k0_h1 => k0_hw17.1 k0_h1
theorem k0_idx34_inb : ∀ (i : grid0.Coords) (v112 : IVec S16 32) (k0_hw17 : k0_chk17 i v112), ∀ (k0_h1 : k0_cond1 i = 1#1), ∀ a x, ((![v112] : Fin 1 → IVec S16 32) a x).toNat < S32768.size a := fun i v112 k0_hw17 k0_h1 => k0_hw17.2 k0_h1

def k0_chk18 (i : grid0.Coords) (v145 : IVec S16 32) : Prop :=
  (∀ (k0_h1 : k0_cond1 i = 1#1), ∀ a x, ((![v145] : Fin 1 → IVec S16 32) a x).toNat < S32768.size a) ∧
  (∀ (k0_h1 : k0_cond1 i = 1#1), ∀ a x, ((![v145] : Fin 1 → IVec S16 32) a x).toNat < S32768.size a)
theorem k0_idx35_inb : ∀ (i : grid0.Coords) (v145 : IVec S16 32) (k0_hw18 : k0_chk18 i v145), ∀ (k0_h1 : k0_cond1 i = 1#1), ∀ a x, ((![v145] : Fin 1 → IVec S16 32) a x).toNat < S32768.size a := fun i v145 k0_hw18 k0_h1 => k0_hw18.1 k0_h1
theorem k0_idx36_inb : ∀ (i : grid0.Coords) (v145 : IVec S16 32) (k0_hw18 : k0_chk18 i v145), ∀ (k0_h1 : k0_cond1 i = 1#1), ∀ a x, ((![v145] : Fin 1 → IVec S16 32) a x).toNat < S32768.size a := fun i v145 k0_hw18 k0_h1 => k0_hw18.2 k0_h1

def k0_chk19 (i : grid0.Coords) (v178 : IVec S16 32) : Prop :=
  (∀ (k0_h1 : k0_cond1 i = 1#1), ∀ a x, ((![v178] : Fin 1 → IVec S16 32) a x).toNat < S32768.size a) ∧
  (∀ (k0_h1 : k0_cond1 i = 1#1), ∀ a x, ((![v178] : Fin 1 → IVec S16 32) a x).toNat < S32768.size a)
theorem k0_idx37_inb : ∀ (i : grid0.Coords) (v178 : IVec S16 32) (k0_hw19 : k0_chk19 i v178), ∀ (k0_h1 : k0_cond1 i = 1#1), ∀ a x, ((![v178] : Fin 1 → IVec S16 32) a x).toNat < S32768.size a := fun i v178 k0_hw19 k0_h1 => k0_hw19.1 k0_h1
theorem k0_idx38_inb : ∀ (i : grid0.Coords) (v178 : IVec S16 32) (k0_hw19 : k0_chk19 i v178), ∀ (k0_h1 : k0_cond1 i = 1#1), ∀ a x, ((![v178] : Fin 1 → IVec S16 32) a x).toNat < S32768.size a := fun i v178 k0_hw19 k0_h1 => k0_hw19.2 k0_h1

def k0_chk20 (i : grid0.Coords) (v211 : IVec S16 32) : Prop :=
  (∀ (k0_h1 : k0_cond1 i = 1#1), ∀ a x, ((![v211] : Fin 1 → IVec S16 32) a x).toNat < S32768.size a) ∧
  (∀ (k0_h1 : k0_cond1 i = 1#1), ∀ a x, ((![v211] : Fin 1 → IVec S16 32) a x).toNat < S32768.size a)
theorem k0_idx39_inb : ∀ (i : grid0.Coords) (v211 : IVec S16 32) (k0_hw20 : k0_chk20 i v211), ∀ (k0_h1 : k0_cond1 i = 1#1), ∀ a x, ((![v211] : Fin 1 → IVec S16 32) a x).toNat < S32768.size a := fun i v211 k0_hw20 k0_h1 => k0_hw20.1 k0_h1
theorem k0_idx40_inb : ∀ (i : grid0.Coords) (v211 : IVec S16 32) (k0_hw20 : k0_chk20 i v211), ∀ (k0_h1 : k0_cond1 i = 1#1), ∀ a x, ((![v211] : Fin 1 → IVec S16 32) a x).toNat < S32768.size a := fun i v211 k0_hw20 k0_h1 => k0_hw20.2 k0_h1

def k0_chk21 (i : grid0.Coords) (v244 : IVec S16 32) : Prop :=
  (∀ (k0_h1 : k0_cond1 i = 1#1), ∀ a x, ((![v244] : Fin 1 → IVec S16 32) a x).toNat < S32768.size a) ∧
  (∀ (k0_h1 : k0_cond1 i = 1#1), ∀ a x, ((![v244] : Fin 1 → IVec S16 32) a x).toNat < S32768.size a)
theorem k0_idx41_inb : ∀ (i : grid0.Coords) (v244 : IVec S16 32) (k0_hw21 : k0_chk21 i v244), ∀ (k0_h1 : k0_cond1 i = 1#1), ∀ a x, ((![v244] : Fin 1 → IVec S16 32) a x).toNat < S32768.size a := fun i v244 k0_hw21 k0_h1 => k0_hw21.1 k0_h1
theorem k0_idx42_inb : ∀ (i : grid0.Coords) (v244 : IVec S16 32) (k0_hw21 : k0_chk21 i v244), ∀ (k0_h1 : k0_cond1 i = 1#1), ∀ a x, ((![v244] : Fin 1 → IVec S16 32) a x).toNat < S32768.size a := fun i v244 k0_hw21 k0_h1 => k0_hw21.2 k0_h1
@[reducible] def k0_t7_loop : Scf.Loop 32 :=
  let c0_i32_34 : BitVec 32 := 0#32
  let c16_i32_35 : BitVec 32 := 16#32
  let v56 : BitVec 32 := Scalar.addi c0_i32_34 c16_i32_35
  let c1_i32_36 : BitVec 32 := 1#32
  ⟨c0_i32_34, v56, c1_i32_36⟩

def k0_chk22 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx43_inb : ∀ (i : grid0.Coords) (v82 : IVec S16 32) (k0_hw22 : k0_chk22 i v82), ∀ (k0_h1 : k0_cond1 i = 1#1), ∀ a x, ((![v82] : Fin 1 → IVec S16 32) a x).toNat < S32768.size a := fun i v82 k0_hw22 k0_h1 => k0_hw22.1 k0_h1
theorem k0_idx44_inb : ∀ (i : grid0.Coords) (v82 : IVec S16 32) (k0_hw22 : k0_chk22 i v82), ∀ (k0_h1 : k0_cond1 i = 1#1), ∀ a x, ((![v82] : Fin 1 → IVec S16 32) a x).toNat < S32768.size a := fun i v82 k0_hw22 k0_h1 => k0_hw22.2 k0_h1

def k0_chk23 (i : grid0.Coords) (v112 : IVec S16 32) : Prop :=
  (∀ (k0_h1 : k0_cond1 i = 1#1), ∀ a x, ((![v112] : Fin 1 → IVec S16 32) a x).toNat < S32768.size a) ∧
  (∀ (k0_h1 : k0_cond1 i = 1#1), ∀ a x, ((![v112] : Fin 1 → IVec S16 32) a x).toNat < S32768.size a)
theorem k0_idx45_inb : ∀ (i : grid0.Coords) (v112 : IVec S16 32) (k0_hw23 : k0_chk23 i v112), ∀ (k0_h1 : k0_cond1 i = 1#1), ∀ a x, ((![v112] : Fin 1 → IVec S16 32) a x).toNat < S32768.size a := fun i v112 k0_hw23 k0_h1 => k0_hw23.1 k0_h1
theorem k0_idx46_inb : ∀ (i : grid0.Coords) (v112 : IVec S16 32) (k0_hw23 : k0_chk23 i v112), ∀ (k0_h1 : k0_cond1 i = 1#1), ∀ a x, ((![v112] : Fin 1 → IVec S16 32) a x).toNat < S32768.size a := fun i v112 k0_hw23 k0_h1 => k0_hw23.2 k0_h1

def k0_chk24 (i : grid0.Coords) (v145 : IVec S16 32) : Prop :=
  (∀ (k0_h1 : k0_cond1 i = 1#1), ∀ a x, ((![v145] : Fin 1 → IVec S16 32) a x).toNat < S32768.size a) ∧
  (∀ (k0_h1 : k0_cond1 i = 1#1), ∀ a x, ((![v145] : Fin 1 → IVec S16 32) a x).toNat < S32768.size a)
theorem k0_idx47_inb : ∀ (i : grid0.Coords) (v145 : IVec S16 32) (k0_hw24 : k0_chk24 i v145), ∀ (k0_h1 : k0_cond1 i = 1#1), ∀ a x, ((![v145] : Fin 1 → IVec S16 32) a x).toNat < S32768.size a := fun i v145 k0_hw24 k0_h1 => k0_hw24.1 k0_h1
theorem k0_idx48_inb : ∀ (i : grid0.Coords) (v145 : IVec S16 32) (k0_hw24 : k0_chk24 i v145), ∀ (k0_h1 : k0_cond1 i = 1#1), ∀ a x, ((![v145] : Fin 1 → IVec S16 32) a x).toNat < S32768.size a := fun i v145 k0_hw24 k0_h1 => k0_hw24.2 k0_h1

def k0_chk25 (i : grid0.Coords) (v178 : IVec S16 32) : Prop :=
  (∀ (k0_h1 : k0_cond1 i = 1#1), ∀ a x, ((![v178] : Fin 1 → IVec S16 32) a x).toNat < S32768.size a) ∧
  (∀ (k0_h1 : k0_cond1 i = 1#1), ∀ a x, ((![v178] : Fin 1 → IVec S16 32) a x).toNat < S32768.size a)
theorem k0_idx49_inb : ∀ (i : grid0.Coords) (v178 : IVec S16 32) (k0_hw25 : k0_chk25 i v178), ∀ (k0_h1 : k0_cond1 i = 1#1), ∀ a x, ((![v178] : Fin 1 → IVec S16 32) a x).toNat < S32768.size a := fun i v178 k0_hw25 k0_h1 => k0_hw25.1 k0_h1
theorem k0_idx50_inb : ∀ (i : grid0.Coords) (v178 : IVec S16 32) (k0_hw25 : k0_chk25 i v178), ∀ (k0_h1 : k0_cond1 i = 1#1), ∀ a x, ((![v178] : Fin 1 → IVec S16 32) a x).toNat < S32768.size a := fun i v178 k0_hw25 k0_h1 => k0_hw25.2 k0_h1

def k0_chk26 (i : grid0.Coords) (v211 : IVec S16 32) : Prop :=
  (∀ (k0_h1 : k0_cond1 i = 1#1), ∀ a x, ((![v211] : Fin 1 → IVec S16 32) a x).toNat < S32768.size a) ∧
  (∀ (k0_h1 : k0_cond1 i = 1#1), ∀ a x, ((![v211] : Fin 1 → IVec S16 32) a x).toNat < S32768.size a)
theorem k0_idx51_inb : ∀ (i : grid0.Coords) (v211 : IVec S16 32) (k0_hw26 : k0_chk26 i v211), ∀ (k0_h1 : k0_cond1 i = 1#1), ∀ a x, ((![v211] : Fin 1 → IVec S16 32) a x).toNat < S32768.size a := fun i v211 k0_hw26 k0_h1 => k0_hw26.1 k0_h1
theorem k0_idx52_inb : ∀ (i : grid0.Coords) (v211 : IVec S16 32) (k0_hw26 : k0_chk26 i v211), ∀ (k0_h1 : k0_cond1 i = 1#1), ∀ a x, ((![v211] : Fin 1 → IVec S16 32) a x).toNat < S32768.size a := fun i v211 k0_hw26 k0_h1 => k0_hw26.2 k0_h1

def k0_chk27 (i : grid0.Coords) (v244 : IVec S16 32) : Prop :=
  (∀ (k0_h1 : k0_cond1 i = 1#1), ∀ a x, ((![v244] : Fin 1 → IVec S16 32) a x).toNat < S32768.size a) ∧
  (∀ (k0_h1 : k0_cond1 i = 1#1), ∀ a x, ((![v244] : Fin 1 → IVec S16 32) a x).toNat < S32768.size a)
theorem k0_idx53_inb : ∀ (i : grid0.Coords) (v244 : IVec S16 32) (k0_hw27 : k0_chk27 i v244), ∀ (k0_h1 : k0_cond1 i = 1#1), ∀ a x, ((![v244] : Fin 1 → IVec S16 32) a x).toNat < S32768.size a := fun i v244 k0_hw27 k0_h1 => k0_hw27.1 k0_h1
theorem k0_idx54_inb : ∀ (i : grid0.Coords) (v244 : IVec S16 32) (k0_hw27 : k0_chk27 i v244), ∀ (k0_h1 : k0_cond1 i = 1#1), ∀ a x, ((![v244] : Fin 1 → IVec S16 32) a x).toNat < S32768.size a := fun i v244 k0_hw27 k0_h1 => k0_hw27.2 k0_h1

def k0_chk28 (i : grid0.Coords) (v277 : IVec S16 32) : Prop :=
  (∀ (k0_h1 : k0_cond1 i = 1#1), ∀ a x, ((![v277] : Fin 1 → IVec S16 32) a x).toNat < S32768.size a) ∧
  (∀ (k0_h1 : k0_cond1 i = 1#1), ∀ a x, ((![v277] : Fin 1 → IVec S16 32) a x).toNat < S32768.size a)
theorem k0_idx55_inb : ∀ (i : grid0.Coords) (v277 : IVec S16 32) (k0_hw28 : k0_chk28 i v277), ∀ (k0_h1 : k0_cond1 i = 1#1), ∀ a x, ((![v277] : Fin 1 → IVec S16 32) a x).toNat < S32768.size a := fun i v277 k0_hw28 k0_h1 => k0_hw28.1 k0_h1
theorem k0_idx56_inb : ∀ (i : grid0.Coords) (v277 : IVec S16 32) (k0_hw28 : k0_chk28 i v277), ∀ (k0_h1 : k0_cond1 i = 1#1), ∀ a x, ((![v277] : Fin 1 → IVec S16 32) a x).toNat < S32768.size a := fun i v277 k0_hw28 k0_h1 => k0_hw28.2 k0_h1
@[reducible] def k0_t8_loop : Scf.Loop 32 :=
  let c0_i32_38 : BitVec 32 := 0#32
  let c16_i32_39 : BitVec 32 := 16#32
  let v58 : BitVec 32 := Scalar.addi c0_i32_38 c16_i32_39
  let c1_i32_40 : BitVec 32 := 1#32
  ⟨c0_i32_38, v58, c1_i32_40⟩

def k0_chk29 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx57_inb : ∀ (i : grid0.Coords) (v82 : IVec S16 32) (k0_hw29 : k0_chk29 i v82), ∀ (k0_h1 : k0_cond1 i = 1#1), ∀ a x, ((![v82] : Fin 1 → IVec S16 32) a x).toNat < S32768.size a := fun i v82 k0_hw29 k0_h1 => k0_hw29.1 k0_h1
theorem k0_idx58_inb : ∀ (i : grid0.Coords) (v82 : IVec S16 32) (k0_hw29 : k0_chk29 i v82), ∀ (k0_h1 : k0_cond1 i = 1#1), ∀ a x, ((![v82] : Fin 1 → IVec S16 32) a x).toNat < S32768.size a := fun i v82 k0_hw29 k0_h1 => k0_hw29.2 k0_h1

def k0_chk30 (i : grid0.Coords) (v112 : IVec S16 32) : Prop :=
  (∀ (k0_h1 : k0_cond1 i = 1#1), ∀ a x, ((![v112] : Fin 1 → IVec S16 32) a x).toNat < S32768.size a) ∧
  (∀ (k0_h1 : k0_cond1 i = 1#1), ∀ a x, ((![v112] : Fin 1 → IVec S16 32) a x).toNat < S32768.size a)
theorem k0_idx59_inb : ∀ (i : grid0.Coords) (v112 : IVec S16 32) (k0_hw30 : k0_chk30 i v112), ∀ (k0_h1 : k0_cond1 i = 1#1), ∀ a x, ((![v112] : Fin 1 → IVec S16 32) a x).toNat < S32768.size a := fun i v112 k0_hw30 k0_h1 => k0_hw30.1 k0_h1
theorem k0_idx60_inb : ∀ (i : grid0.Coords) (v112 : IVec S16 32) (k0_hw30 : k0_chk30 i v112), ∀ (k0_h1 : k0_cond1 i = 1#1), ∀ a x, ((![v112] : Fin 1 → IVec S16 32) a x).toNat < S32768.size a := fun i v112 k0_hw30 k0_h1 => k0_hw30.2 k0_h1

def k0_chk31 (i : grid0.Coords) (v145 : IVec S16 32) : Prop :=
  (∀ (k0_h1 : k0_cond1 i = 1#1), ∀ a x, ((![v145] : Fin 1 → IVec S16 32) a x).toNat < S32768.size a) ∧
  (∀ (k0_h1 : k0_cond1 i = 1#1), ∀ a x, ((![v145] : Fin 1 → IVec S16 32) a x).toNat < S32768.size a)
theorem k0_idx61_inb : ∀ (i : grid0.Coords) (v145 : IVec S16 32) (k0_hw31 : k0_chk31 i v145), ∀ (k0_h1 : k0_cond1 i = 1#1), ∀ a x, ((![v145] : Fin 1 → IVec S16 32) a x).toNat < S32768.size a := fun i v145 k0_hw31 k0_h1 => k0_hw31.1 k0_h1
theorem k0_idx62_inb : ∀ (i : grid0.Coords) (v145 : IVec S16 32) (k0_hw31 : k0_chk31 i v145), ∀ (k0_h1 : k0_cond1 i = 1#1), ∀ a x, ((![v145] : Fin 1 → IVec S16 32) a x).toNat < S32768.size a := fun i v145 k0_hw31 k0_h1 => k0_hw31.2 k0_h1

def k0_chk32 (i : grid0.Coords) (v178 : IVec S16 32) : Prop :=
  (∀ (k0_h1 : k0_cond1 i = 1#1), ∀ a x, ((![v178] : Fin 1 → IVec S16 32) a x).toNat < S32768.size a) ∧
  (∀ (k0_h1 : k0_cond1 i = 1#1), ∀ a x, ((![v178] : Fin 1 → IVec S16 32) a x).toNat < S32768.size a)
theorem k0_idx63_inb : ∀ (i : grid0.Coords) (v178 : IVec S16 32) (k0_hw32 : k0_chk32 i v178), ∀ (k0_h1 : k0_cond1 i = 1#1), ∀ a x, ((![v178] : Fin 1 → IVec S16 32) a x).toNat < S32768.size a := fun i v178 k0_hw32 k0_h1 => k0_hw32.1 k0_h1
theorem k0_idx64_inb : ∀ (i : grid0.Coords) (v178 : IVec S16 32) (k0_hw32 : k0_chk32 i v178), ∀ (k0_h1 : k0_cond1 i = 1#1), ∀ a x, ((![v178] : Fin 1 → IVec S16 32) a x).toNat < S32768.size a := fun i v178 k0_hw32 k0_h1 => k0_hw32.2 k0_h1

def k0_chk33 (i : grid0.Coords) (v211 : IVec S16 32) : Prop :=
  (∀ (k0_h1 : k0_cond1 i = 1#1), ∀ a x, ((![v211] : Fin 1 → IVec S16 32) a x).toNat < S32768.size a) ∧
  (∀ (k0_h1 : k0_cond1 i = 1#1), ∀ a x, ((![v211] : Fin 1 → IVec S16 32) a x).toNat < S32768.size a)
theorem k0_idx65_inb : ∀ (i : grid0.Coords) (v211 : IVec S16 32) (k0_hw33 : k0_chk33 i v211), ∀ (k0_h1 : k0_cond1 i = 1#1), ∀ a x, ((![v211] : Fin 1 → IVec S16 32) a x).toNat < S32768.size a := fun i v211 k0_hw33 k0_h1 => k0_hw33.1 k0_h1
theorem k0_idx66_inb : ∀ (i : grid0.Coords) (v211 : IVec S16 32) (k0_hw33 : k0_chk33 i v211), ∀ (k0_h1 : k0_cond1 i = 1#1), ∀ a x, ((![v211] : Fin 1 → IVec S16 32) a x).toNat < S32768.size a := fun i v211 k0_hw33 k0_h1 => k0_hw33.2 k0_h1

def k0_chk34 (i : grid0.Coords) (v244 : IVec S16 32) : Prop :=
  (∀ (k0_h1 : k0_cond1 i = 1#1), ∀ a x, ((![v244] : Fin 1 → IVec S16 32) a x).toNat < S32768.size a) ∧
  (∀ (k0_h1 : k0_cond1 i = 1#1), ∀ a x, ((![v244] : Fin 1 → IVec S16 32) a x).toNat < S32768.size a)
theorem k0_idx67_inb : ∀ (i : grid0.Coords) (v244 : IVec S16 32) (k0_hw34 : k0_chk34 i v244), ∀ (k0_h1 : k0_cond1 i = 1#1), ∀ a x, ((![v244] : Fin 1 → IVec S16 32) a x).toNat < S32768.size a := fun i v244 k0_hw34 k0_h1 => k0_hw34.1 k0_h1
theorem k0_idx68_inb : ∀ (i : grid0.Coords) (v244 : IVec S16 32) (k0_hw34 : k0_chk34 i v244), ∀ (k0_h1 : k0_cond1 i = 1#1), ∀ a x, ((![v244] : Fin 1 → IVec S16 32) a x).toNat < S32768.size a := fun i v244 k0_hw34 k0_h1 => k0_hw34.2 k0_h1

def k0_chk35 (i : grid0.Coords) (v277 : IVec S16 32) : Prop :=
  (∀ (k0_h1 : k0_cond1 i = 1#1), ∀ a x, ((![v277] : Fin 1 → IVec S16 32) a x).toNat < S32768.size a) ∧
  (∀ (k0_h1 : k0_cond1 i = 1#1), ∀ a x, ((![v277] : Fin 1 → IVec S16 32) a x).toNat < S32768.size a)
theorem k0_idx69_inb : ∀ (i : grid0.Coords) (v277 : IVec S16 32) (k0_hw35 : k0_chk35 i v277), ∀ (k0_h1 : k0_cond1 i = 1#1), ∀ a x, ((![v277] : Fin 1 → IVec S16 32) a x).toNat < S32768.size a := fun i v277 k0_hw35 k0_h1 => k0_hw35.1 k0_h1
theorem k0_idx70_inb : ∀ (i : grid0.Coords) (v277 : IVec S16 32) (k0_hw35 : k0_chk35 i v277), ∀ (k0_h1 : k0_cond1 i = 1#1), ∀ a x, ((![v277] : Fin 1 → IVec S16 32) a x).toNat < S32768.size a := fun i v277 k0_hw35 k0_h1 => k0_hw35.2 k0_h1

def k0_chk36 (i : grid0.Coords) (v310 : IVec S16 32) : Prop :=
  (∀ (k0_h1 : k0_cond1 i = 1#1), ∀ a x, ((![v310] : Fin 1 → IVec S16 32) a x).toNat < S32768.size a) ∧
  (∀ (k0_h1 : k0_cond1 i = 1#1), ∀ a x, ((![v310] : Fin 1 → IVec S16 32) a x).toNat < S32768.size a)
theorem k0_idx71_inb : ∀ (i : grid0.Coords) (v310 : IVec S16 32) (k0_hw36 : k0_chk36 i v310), ∀ (k0_h1 : k0_cond1 i = 1#1), ∀ a x, ((![v310] : Fin 1 → IVec S16 32) a x).toNat < S32768.size a := fun i v310 k0_hw36 k0_h1 => k0_hw36.1 k0_h1
theorem k0_idx72_inb : ∀ (i : grid0.Coords) (v310 : IVec S16 32) (k0_hw36 : k0_chk36 i v310), ∀ (k0_h1 : k0_cond1 i = 1#1), ∀ a x, ((![v310] : Fin 1 → IVec S16 32) a x).toNat < S32768.size a := fun i v310 k0_hw36 k0_h1 => k0_hw36.2 k0_h1
@[reducible] def k0_t9_loop : Scf.Loop 32 :=
  let c0_i32_42 : BitVec 32 := 0#32
  let c128_i32 : BitVec 32 := 128#32
  let v60 : BitVec 32 := Scalar.addi c0_i32_42 c128_i32
  let c1_i32_43 : BitVec 32 := 1#32
  ⟨c0_i32_42, v60, c1_i32_43⟩

def k0_chk37 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx73_inb : ∀ (i : grid0.Coords) (v82 : IVec S16 32) (k0_hw37 : k0_chk37 i v82), ∀ (k0_h1 : k0_cond1 i = 1#1), ∀ a x, ((![v82] : Fin 1 → IVec S16 32) a x).toNat < S32768.size a := fun i v82 k0_hw37 k0_h1 => k0_hw37.1 k0_h1
theorem k0_idx74_inb : ∀ (i : grid0.Coords) (v82 : IVec S16 32) (k0_hw37 : k0_chk37 i v82), ∀ (k0_h1 : k0_cond1 i = 1#1), ∀ a x, ((![v82] : Fin 1 → IVec S16 32) a x).toNat < S32768.size a := fun i v82 k0_hw37 k0_h1 => k0_hw37.2 k0_h1

def k0_chk38 (i : grid0.Coords) (v112 : IVec S16 32) : Prop :=
  (∀ (k0_h1 : k0_cond1 i = 1#1), ∀ a x, ((![v112] : Fin 1 → IVec S16 32) a x).toNat < S32768.size a) ∧
  (∀ (k0_h1 : k0_cond1 i = 1#1), ∀ a x, ((![v112] : Fin 1 → IVec S16 32) a x).toNat < S32768.size a)
theorem k0_idx75_inb : ∀ (i : grid0.Coords) (v112 : IVec S16 32) (k0_hw38 : k0_chk38 i v112), ∀ (k0_h1 : k0_cond1 i = 1#1), ∀ a x, ((![v112] : Fin 1 → IVec S16 32) a x).toNat < S32768.size a := fun i v112 k0_hw38 k0_h1 => k0_hw38.1 k0_h1
theorem k0_idx76_inb : ∀ (i : grid0.Coords) (v112 : IVec S16 32) (k0_hw38 : k0_chk38 i v112), ∀ (k0_h1 : k0_cond1 i = 1#1), ∀ a x, ((![v112] : Fin 1 → IVec S16 32) a x).toNat < S32768.size a := fun i v112 k0_hw38 k0_h1 => k0_hw38.2 k0_h1

def k0_chk39 (i : grid0.Coords) (v145 : IVec S16 32) : Prop :=
  (∀ (k0_h1 : k0_cond1 i = 1#1), ∀ a x, ((![v145] : Fin 1 → IVec S16 32) a x).toNat < S32768.size a) ∧
  (∀ (k0_h1 : k0_cond1 i = 1#1), ∀ a x, ((![v145] : Fin 1 → IVec S16 32) a x).toNat < S32768.size a)
theorem k0_idx77_inb : ∀ (i : grid0.Coords) (v145 : IVec S16 32) (k0_hw39 : k0_chk39 i v145), ∀ (k0_h1 : k0_cond1 i = 1#1), ∀ a x, ((![v145] : Fin 1 → IVec S16 32) a x).toNat < S32768.size a := fun i v145 k0_hw39 k0_h1 => k0_hw39.1 k0_h1
theorem k0_idx78_inb : ∀ (i : grid0.Coords) (v145 : IVec S16 32) (k0_hw39 : k0_chk39 i v145), ∀ (k0_h1 : k0_cond1 i = 1#1), ∀ a x, ((![v145] : Fin 1 → IVec S16 32) a x).toNat < S32768.size a := fun i v145 k0_hw39 k0_h1 => k0_hw39.2 k0_h1

def k0_chk40 (i : grid0.Coords) (v178 : IVec S16 32) : Prop :=
  (∀ (k0_h1 : k0_cond1 i = 1#1), ∀ a x, ((![v178] : Fin 1 → IVec S16 32) a x).toNat < S32768.size a) ∧
  (∀ (k0_h1 : k0_cond1 i = 1#1), ∀ a x, ((![v178] : Fin 1 → IVec S16 32) a x).toNat < S32768.size a)
theorem k0_idx79_inb : ∀ (i : grid0.Coords) (v178 : IVec S16 32) (k0_hw40 : k0_chk40 i v178), ∀ (k0_h1 : k0_cond1 i = 1#1), ∀ a x, ((![v178] : Fin 1 → IVec S16 32) a x).toNat < S32768.size a := fun i v178 k0_hw40 k0_h1 => k0_hw40.1 k0_h1
theorem k0_idx80_inb : ∀ (i : grid0.Coords) (v178 : IVec S16 32) (k0_hw40 : k0_chk40 i v178), ∀ (k0_h1 : k0_cond1 i = 1#1), ∀ a x, ((![v178] : Fin 1 → IVec S16 32) a x).toNat < S32768.size a := fun i v178 k0_hw40 k0_h1 => k0_hw40.2 k0_h1

def k0_chk41 (i : grid0.Coords) (v211 : IVec S16 32) : Prop :=
  (∀ (k0_h1 : k0_cond1 i = 1#1), ∀ a x, ((![v211] : Fin 1 → IVec S16 32) a x).toNat < S32768.size a) ∧
  (∀ (k0_h1 : k0_cond1 i = 1#1), ∀ a x, ((![v211] : Fin 1 → IVec S16 32) a x).toNat < S32768.size a)
theorem k0_idx81_inb : ∀ (i : grid0.Coords) (v211 : IVec S16 32) (k0_hw41 : k0_chk41 i v211), ∀ (k0_h1 : k0_cond1 i = 1#1), ∀ a x, ((![v211] : Fin 1 → IVec S16 32) a x).toNat < S32768.size a := fun i v211 k0_hw41 k0_h1 => k0_hw41.1 k0_h1
theorem k0_idx82_inb : ∀ (i : grid0.Coords) (v211 : IVec S16 32) (k0_hw41 : k0_chk41 i v211), ∀ (k0_h1 : k0_cond1 i = 1#1), ∀ a x, ((![v211] : Fin 1 → IVec S16 32) a x).toNat < S32768.size a := fun i v211 k0_hw41 k0_h1 => k0_hw41.2 k0_h1

def k0_chk42 (i : grid0.Coords) (v244 : IVec S16 32) : Prop :=
  (∀ (k0_h1 : k0_cond1 i = 1#1), ∀ a x, ((![v244] : Fin 1 → IVec S16 32) a x).toNat < S32768.size a) ∧
  (∀ (k0_h1 : k0_cond1 i = 1#1), ∀ a x, ((![v244] : Fin 1 → IVec S16 32) a x).toNat < S32768.size a)
theorem k0_idx83_inb : ∀ (i : grid0.Coords) (v244 : IVec S16 32) (k0_hw42 : k0_chk42 i v244), ∀ (k0_h1 : k0_cond1 i = 1#1), ∀ a x, ((![v244] : Fin 1 → IVec S16 32) a x).toNat < S32768.size a := fun i v244 k0_hw42 k0_h1 => k0_hw42.1 k0_h1
theorem k0_idx84_inb : ∀ (i : grid0.Coords) (v244 : IVec S16 32) (k0_hw42 : k0_chk42 i v244), ∀ (k0_h1 : k0_cond1 i = 1#1), ∀ a x, ((![v244] : Fin 1 → IVec S16 32) a x).toNat < S32768.size a := fun i v244 k0_hw42 k0_h1 => k0_hw42.2 k0_h1

def k0_chk43 (i : grid0.Coords) (v277 : IVec S16 32) : Prop :=
  (∀ (k0_h1 : k0_cond1 i = 1#1), ∀ a x, ((![v277] : Fin 1 → IVec S16 32) a x).toNat < S32768.size a) ∧
  (∀ (k0_h1 : k0_cond1 i = 1#1), ∀ a x, ((![v277] : Fin 1 → IVec S16 32) a x).toNat < S32768.size a)
theorem k0_idx85_inb : ∀ (i : grid0.Coords) (v277 : IVec S16 32) (k0_hw43 : k0_chk43 i v277), ∀ (k0_h1 : k0_cond1 i = 1#1), ∀ a x, ((![v277] : Fin 1 → IVec S16 32) a x).toNat < S32768.size a := fun i v277 k0_hw43 k0_h1 => k0_hw43.1 k0_h1
theorem k0_idx86_inb : ∀ (i : grid0.Coords) (v277 : IVec S16 32) (k0_hw43 : k0_chk43 i v277), ∀ (k0_h1 : k0_cond1 i = 1#1), ∀ a x, ((![v277] : Fin 1 → IVec S16 32) a x).toNat < S32768.size a := fun i v277 k0_hw43 k0_h1 => k0_hw43.2 k0_h1

def k0_chk44 (i : grid0.Coords) (v310 : IVec S16 32) : Prop :=
  (∀ (k0_h1 : k0_cond1 i = 1#1), ∀ a x, ((![v310] : Fin 1 → IVec S16 32) a x).toNat < S32768.size a) ∧
  (∀ (k0_h1 : k0_cond1 i = 1#1), ∀ a x, ((![v310] : Fin 1 → IVec S16 32) a x).toNat < S32768.size a)
theorem k0_idx87_inb : ∀ (i : grid0.Coords) (v310 : IVec S16 32) (k0_hw44 : k0_chk44 i v310), ∀ (k0_h1 : k0_cond1 i = 1#1), ∀ a x, ((![v310] : Fin 1 → IVec S16 32) a x).toNat < S32768.size a := fun i v310 k0_hw44 k0_h1 => k0_hw44.1 k0_h1
theorem k0_idx88_inb : ∀ (i : grid0.Coords) (v310 : IVec S16 32) (k0_hw44 : k0_chk44 i v310), ∀ (k0_h1 : k0_cond1 i = 1#1), ∀ a x, ((![v310] : Fin 1 → IVec S16 32) a x).toNat < S32768.size a := fun i v310 k0_hw44 k0_h1 => k0_hw44.2 k0_h1
@[reducible] def k0_t10_loop : Scf.Loop 32 :=
  let c0_i32_45 : BitVec 32 := 0#32
  let c16_i32_46 : BitVec 32 := 16#32
  let v62 : BitVec 32 := Scalar.addi c0_i32_45 c16_i32_46
  let c1_i32_47 : BitVec 32 := 1#32
  ⟨c0_i32_45, v62, c1_i32_47⟩

def k0_chk45 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx89_inb : ∀ (i : grid0.Coords) (v82 : IVec S16 32) (k0_hw45 : k0_chk45 i v82), ∀ (k0_h1 : k0_cond1 i = 1#1), ∀ a x, ((![v82] : Fin 1 → IVec S16 32) a x).toNat < S32768.size a := fun i v82 k0_hw45 k0_h1 => k0_hw45.1 k0_h1
theorem k0_idx90_inb : ∀ (i : grid0.Coords) (v82 : IVec S16 32) (k0_hw45 : k0_chk45 i v82), ∀ (k0_h1 : k0_cond1 i = 1#1), ∀ a x, ((![v82] : Fin 1 → IVec S16 32) a x).toNat < S32768.size a := fun i v82 k0_hw45 k0_h1 => k0_hw45.2 k0_h1

def k0_chk46 (i : grid0.Coords) (v117 : IVec S16 32) : Prop :=
  (∀ (k0_h1 : k0_cond1 i = 1#1), ∀ a x, ((![v117] : Fin 1 → IVec S16 32) a x).toNat < S32768.size a) ∧
  (∀ (k0_h1 : k0_cond1 i = 1#1), ∀ a x, ((![v117] : Fin 1 → IVec S16 32) a x).toNat < S32768.size a)
theorem k0_idx91_inb : ∀ (i : grid0.Coords) (v117 : IVec S16 32) (k0_hw46 : k0_chk46 i v117), ∀ (k0_h1 : k0_cond1 i = 1#1), ∀ a x, ((![v117] : Fin 1 → IVec S16 32) a x).toNat < S32768.size a := fun i v117 k0_hw46 k0_h1 => k0_hw46.1 k0_h1
theorem k0_idx92_inb : ∀ (i : grid0.Coords) (v117 : IVec S16 32) (k0_hw46 : k0_chk46 i v117), ∀ (k0_h1 : k0_cond1 i = 1#1), ∀ a x, ((![v117] : Fin 1 → IVec S16 32) a x).toNat < S32768.size a := fun i v117 k0_hw46 k0_h1 => k0_hw46.2 k0_h1

def k0_chk47 (i : grid0.Coords) (v150 : IVec S16 32) : Prop :=
  (∀ (k0_h1 : k0_cond1 i = 1#1), ∀ a x, ((![v150] : Fin 1 → IVec S16 32) a x).toNat < S32768.size a) ∧
  (∀ (k0_h1 : k0_cond1 i = 1#1), ∀ a x, ((![v150] : Fin 1 → IVec S16 32) a x).toNat < S32768.size a)
theorem k0_idx93_inb : ∀ (i : grid0.Coords) (v150 : IVec S16 32) (k0_hw47 : k0_chk47 i v150), ∀ (k0_h1 : k0_cond1 i = 1#1), ∀ a x, ((![v150] : Fin 1 → IVec S16 32) a x).toNat < S32768.size a := fun i v150 k0_hw47 k0_h1 => k0_hw47.1 k0_h1
theorem k0_idx94_inb : ∀ (i : grid0.Coords) (v150 : IVec S16 32) (k0_hw47 : k0_chk47 i v150), ∀ (k0_h1 : k0_cond1 i = 1#1), ∀ a x, ((![v150] : Fin 1 → IVec S16 32) a x).toNat < S32768.size a := fun i v150 k0_hw47 k0_h1 => k0_hw47.2 k0_h1

def k0_chk48 (i : grid0.Coords) (v183 : IVec S16 32) : Prop :=
  (∀ (k0_h1 : k0_cond1 i = 1#1), ∀ a x, ((![v183] : Fin 1 → IVec S16 32) a x).toNat < S32768.size a) ∧
  (∀ (k0_h1 : k0_cond1 i = 1#1), ∀ a x, ((![v183] : Fin 1 → IVec S16 32) a x).toNat < S32768.size a)
theorem k0_idx95_inb : ∀ (i : grid0.Coords) (v183 : IVec S16 32) (k0_hw48 : k0_chk48 i v183), ∀ (k0_h1 : k0_cond1 i = 1#1), ∀ a x, ((![v183] : Fin 1 → IVec S16 32) a x).toNat < S32768.size a := fun i v183 k0_hw48 k0_h1 => k0_hw48.1 k0_h1
theorem k0_idx96_inb : ∀ (i : grid0.Coords) (v183 : IVec S16 32) (k0_hw48 : k0_chk48 i v183), ∀ (k0_h1 : k0_cond1 i = 1#1), ∀ a x, ((![v183] : Fin 1 → IVec S16 32) a x).toNat < S32768.size a := fun i v183 k0_hw48 k0_h1 => k0_hw48.2 k0_h1

def k0_chk49 (i : grid0.Coords) (v216 : IVec S16 32) : Prop :=
  (∀ (k0_h1 : k0_cond1 i = 1#1), ∀ a x, ((![v216] : Fin 1 → IVec S16 32) a x).toNat < S32768.size a) ∧
  (∀ (k0_h1 : k0_cond1 i = 1#1), ∀ a x, ((![v216] : Fin 1 → IVec S16 32) a x).toNat < S32768.size a)
theorem k0_idx97_inb : ∀ (i : grid0.Coords) (v216 : IVec S16 32) (k0_hw49 : k0_chk49 i v216), ∀ (k0_h1 : k0_cond1 i = 1#1), ∀ a x, ((![v216] : Fin 1 → IVec S16 32) a x).toNat < S32768.size a := fun i v216 k0_hw49 k0_h1 => k0_hw49.1 k0_h1
theorem k0_idx98_inb : ∀ (i : grid0.Coords) (v216 : IVec S16 32) (k0_hw49 : k0_chk49 i v216), ∀ (k0_h1 : k0_cond1 i = 1#1), ∀ a x, ((![v216] : Fin 1 → IVec S16 32) a x).toNat < S32768.size a := fun i v216 k0_hw49 k0_h1 => k0_hw49.2 k0_h1

def k0_chk50 (i : grid0.Coords) (v249 : IVec S16 32) : Prop :=
  (∀ (k0_h1 : k0_cond1 i = 1#1), ∀ a x, ((![v249] : Fin 1 → IVec S16 32) a x).toNat < S32768.size a) ∧
  (∀ (k0_h1 : k0_cond1 i = 1#1), ∀ a x, ((![v249] : Fin 1 → IVec S16 32) a x).toNat < S32768.size a)
theorem k0_idx99_inb : ∀ (i : grid0.Coords) (v249 : IVec S16 32) (k0_hw50 : k0_chk50 i v249), ∀ (k0_h1 : k0_cond1 i = 1#1), ∀ a x, ((![v249] : Fin 1 → IVec S16 32) a x).toNat < S32768.size a := fun i v249 k0_hw50 k0_h1 => k0_hw50.1 k0_h1
theorem k0_idx100_inb : ∀ (i : grid0.Coords) (v249 : IVec S16 32) (k0_hw50 : k0_chk50 i v249), ∀ (k0_h1 : k0_cond1 i = 1#1), ∀ a x, ((![v249] : Fin 1 → IVec S16 32) a x).toNat < S32768.size a := fun i v249 k0_hw50 k0_h1 => k0_hw50.2 k0_h1

def k0_chk51 (i : grid0.Coords) (v282 : IVec S16 32) : Prop :=
  (∀ (k0_h1 : k0_cond1 i = 1#1), ∀ a x, ((![v282] : Fin 1 → IVec S16 32) a x).toNat < S32768.size a) ∧
  (∀ (k0_h1 : k0_cond1 i = 1#1), ∀ a x, ((![v282] : Fin 1 → IVec S16 32) a x).toNat < S32768.size a)
theorem k0_idx101_inb : ∀ (i : grid0.Coords) (v282 : IVec S16 32) (k0_hw51 : k0_chk51 i v282), ∀ (k0_h1 : k0_cond1 i = 1#1), ∀ a x, ((![v282] : Fin 1 → IVec S16 32) a x).toNat < S32768.size a := fun i v282 k0_hw51 k0_h1 => k0_hw51.1 k0_h1
theorem k0_idx102_inb : ∀ (i : grid0.Coords) (v282 : IVec S16 32) (k0_hw51 : k0_chk51 i v282), ∀ (k0_h1 : k0_cond1 i = 1#1), ∀ a x, ((![v282] : Fin 1 → IVec S16 32) a x).toNat < S32768.size a := fun i v282 k0_hw51 k0_h1 => k0_hw51.2 k0_h1

def k0_chk52 (i : grid0.Coords) (v315 : IVec S16 32) : Prop :=
  (∀ (k0_h1 : k0_cond1 i = 1#1), ∀ a x, ((![v315] : Fin 1 → IVec S16 32) a x).toNat < S32768.size a) ∧
  (∀ (k0_h1 : k0_cond1 i = 1#1), ∀ a x, ((![v315] : Fin 1 → IVec S16 32) a x).toNat < S32768.size a)
theorem k0_idx103_inb : ∀ (i : grid0.Coords) (v315 : IVec S16 32) (k0_hw52 : k0_chk52 i v315), ∀ (k0_h1 : k0_cond1 i = 1#1), ∀ a x, ((![v315] : Fin 1 → IVec S16 32) a x).toNat < S32768.size a := fun i v315 k0_hw52 k0_h1 => k0_hw52.1 k0_h1
theorem k0_idx104_inb : ∀ (i : grid0.Coords) (v315 : IVec S16 32) (k0_hw52 : k0_chk52 i v315), ∀ (k0_h1 : k0_cond1 i = 1#1), ∀ a x, ((![v315] : Fin 1 → IVec S16 32) a x).toNat < S32768.size a := fun i v315 k0_hw52 k0_h1 => k0_hw52.2 k0_h1
@[reducible] def k0_t11_loop : Scf.Loop 32 :=
  let c0_i32_49 : BitVec 32 := 0#32
  let c16_i32_50 : BitVec 32 := 16#32
  let v64 : BitVec 32 := Scalar.addi c0_i32_49 c16_i32_50
  let c1_i32_51 : BitVec 32 := 1#32
  ⟨c0_i32_49, v64, c1_i32_51⟩

def k0_chk53 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx105_inb : ∀ (i : grid0.Coords) (v82 : IVec S16 32) (k0_hw53 : k0_chk53 i v82), ∀ (k0_h1 : k0_cond1 i = 1#1), ∀ a x, ((![v82] : Fin 1 → IVec S16 32) a x).toNat < S32768.size a := fun i v82 k0_hw53 k0_h1 => k0_hw53.1 k0_h1
theorem k0_idx106_inb : ∀ (i : grid0.Coords) (v82 : IVec S16 32) (k0_hw53 : k0_chk53 i v82), ∀ (k0_h1 : k0_cond1 i = 1#1), ∀ a x, ((![v82] : Fin 1 → IVec S16 32) a x).toNat < S32768.size a := fun i v82 k0_hw53 k0_h1 => k0_hw53.2 k0_h1

def k0_chk54 (i : grid0.Coords) (v117 : IVec S16 32) : Prop :=
  (∀ (k0_h1 : k0_cond1 i = 1#1), ∀ a x, ((![v117] : Fin 1 → IVec S16 32) a x).toNat < S32768.size a) ∧
  (∀ (k0_h1 : k0_cond1 i = 1#1), ∀ a x, ((![v117] : Fin 1 → IVec S16 32) a x).toNat < S32768.size a)
theorem k0_idx107_inb : ∀ (i : grid0.Coords) (v117 : IVec S16 32) (k0_hw54 : k0_chk54 i v117), ∀ (k0_h1 : k0_cond1 i = 1#1), ∀ a x, ((![v117] : Fin 1 → IVec S16 32) a x).toNat < S32768.size a := fun i v117 k0_hw54 k0_h1 => k0_hw54.1 k0_h1
theorem k0_idx108_inb : ∀ (i : grid0.Coords) (v117 : IVec S16 32) (k0_hw54 : k0_chk54 i v117), ∀ (k0_h1 : k0_cond1 i = 1#1), ∀ a x, ((![v117] : Fin 1 → IVec S16 32) a x).toNat < S32768.size a := fun i v117 k0_hw54 k0_h1 => k0_hw54.2 k0_h1

def k0_chk55 (i : grid0.Coords) (v150 : IVec S16 32) : Prop :=
  (∀ (k0_h1 : k0_cond1 i = 1#1), ∀ a x, ((![v150] : Fin 1 → IVec S16 32) a x).toNat < S32768.size a) ∧
  (∀ (k0_h1 : k0_cond1 i = 1#1), ∀ a x, ((![v150] : Fin 1 → IVec S16 32) a x).toNat < S32768.size a)
theorem k0_idx109_inb : ∀ (i : grid0.Coords) (v150 : IVec S16 32) (k0_hw55 : k0_chk55 i v150), ∀ (k0_h1 : k0_cond1 i = 1#1), ∀ a x, ((![v150] : Fin 1 → IVec S16 32) a x).toNat < S32768.size a := fun i v150 k0_hw55 k0_h1 => k0_hw55.1 k0_h1
theorem k0_idx110_inb : ∀ (i : grid0.Coords) (v150 : IVec S16 32) (k0_hw55 : k0_chk55 i v150), ∀ (k0_h1 : k0_cond1 i = 1#1), ∀ a x, ((![v150] : Fin 1 → IVec S16 32) a x).toNat < S32768.size a := fun i v150 k0_hw55 k0_h1 => k0_hw55.2 k0_h1

def k0_chk56 (i : grid0.Coords) (v183 : IVec S16 32) : Prop :=
  (∀ (k0_h1 : k0_cond1 i = 1#1), ∀ a x, ((![v183] : Fin 1 → IVec S16 32) a x).toNat < S32768.size a) ∧
  (∀ (k0_h1 : k0_cond1 i = 1#1), ∀ a x, ((![v183] : Fin 1 → IVec S16 32) a x).toNat < S32768.size a)
theorem k0_idx111_inb : ∀ (i : grid0.Coords) (v183 : IVec S16 32) (k0_hw56 : k0_chk56 i v183), ∀ (k0_h1 : k0_cond1 i = 1#1), ∀ a x, ((![v183] : Fin 1 → IVec S16 32) a x).toNat < S32768.size a := fun i v183 k0_hw56 k0_h1 => k0_hw56.1 k0_h1
theorem k0_idx112_inb : ∀ (i : grid0.Coords) (v183 : IVec S16 32) (k0_hw56 : k0_chk56 i v183), ∀ (k0_h1 : k0_cond1 i = 1#1), ∀ a x, ((![v183] : Fin 1 → IVec S16 32) a x).toNat < S32768.size a := fun i v183 k0_hw56 k0_h1 => k0_hw56.2 k0_h1

def k0_chk57 (i : grid0.Coords) (v216 : IVec S16 32) : Prop :=
  (∀ (k0_h1 : k0_cond1 i = 1#1), ∀ a x, ((![v216] : Fin 1 → IVec S16 32) a x).toNat < S32768.size a) ∧
  (∀ (k0_h1 : k0_cond1 i = 1#1), ∀ a x, ((![v216] : Fin 1 → IVec S16 32) a x).toNat < S32768.size a)
theorem k0_idx113_inb : ∀ (i : grid0.Coords) (v216 : IVec S16 32) (k0_hw57 : k0_chk57 i v216), ∀ (k0_h1 : k0_cond1 i = 1#1), ∀ a x, ((![v216] : Fin 1 → IVec S16 32) a x).toNat < S32768.size a := fun i v216 k0_hw57 k0_h1 => k0_hw57.1 k0_h1
theorem k0_idx114_inb : ∀ (i : grid0.Coords) (v216 : IVec S16 32) (k0_hw57 : k0_chk57 i v216), ∀ (k0_h1 : k0_cond1 i = 1#1), ∀ a x, ((![v216] : Fin 1 → IVec S16 32) a x).toNat < S32768.size a := fun i v216 k0_hw57 k0_h1 => k0_hw57.2 k0_h1

def k0_chk58 (i : grid0.Coords) (v249 : IVec S16 32) : Prop :=
  (∀ (k0_h1 : k0_cond1 i = 1#1), ∀ a x, ((![v249] : Fin 1 → IVec S16 32) a x).toNat < S32768.size a) ∧
  (∀ (k0_h1 : k0_cond1 i = 1#1), ∀ a x, ((![v249] : Fin 1 → IVec S16 32) a x).toNat < S32768.size a)
theorem k0_idx115_inb : ∀ (i : grid0.Coords) (v249 : IVec S16 32) (k0_hw58 : k0_chk58 i v249), ∀ (k0_h1 : k0_cond1 i = 1#1), ∀ a x, ((![v249] : Fin 1 → IVec S16 32) a x).toNat < S32768.size a := fun i v249 k0_hw58 k0_h1 => k0_hw58.1 k0_h1
theorem k0_idx116_inb : ∀ (i : grid0.Coords) (v249 : IVec S16 32) (k0_hw58 : k0_chk58 i v249), ∀ (k0_h1 : k0_cond1 i = 1#1), ∀ a x, ((![v249] : Fin 1 → IVec S16 32) a x).toNat < S32768.size a := fun i v249 k0_hw58 k0_h1 => k0_hw58.2 k0_h1

def k0_chk59 (i : grid0.Coords) (v282 : IVec S16 32) : Prop :=
  (∀ (k0_h1 : k0_cond1 i = 1#1), ∀ a x, ((![v282] : Fin 1 → IVec S16 32) a x).toNat < S32768.size a) ∧
  (∀ (k0_h1 : k0_cond1 i = 1#1), ∀ a x, ((![v282] : Fin 1 → IVec S16 32) a x).toNat < S32768.size a)
theorem k0_idx117_inb : ∀ (i : grid0.Coords) (v282 : IVec S16 32) (k0_hw59 : k0_chk59 i v282), ∀ (k0_h1 : k0_cond1 i = 1#1), ∀ a x, ((![v282] : Fin 1 → IVec S16 32) a x).toNat < S32768.size a := fun i v282 k0_hw59 k0_h1 => k0_hw59.1 k0_h1
theorem k0_idx118_inb : ∀ (i : grid0.Coords) (v282 : IVec S16 32) (k0_hw59 : k0_chk59 i v282), ∀ (k0_h1 : k0_cond1 i = 1#1), ∀ a x, ((![v282] : Fin 1 → IVec S16 32) a x).toNat < S32768.size a := fun i v282 k0_hw59 k0_h1 => k0_hw59.2 k0_h1
@[reducible] def k0_t12_loop : Scf.Loop 32 :=
  let c0_i32_53 : BitVec 32 := 0#32
  let c16_i32_54 : BitVec 32 := 16#32
  let v66 : BitVec 32 := Scalar.addi c0_i32_53 c16_i32_54
  let c1_i32_55 : BitVec 32 := 1#32
  ⟨c0_i32_53, v66, c1_i32_55⟩

def k0_chk60 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx119_inb : ∀ (i : grid0.Coords) (v82 : IVec S16 32) (k0_hw60 : k0_chk60 i v82), ∀ (k0_h1 : k0_cond1 i = 1#1), ∀ a x, ((![v82] : Fin 1 → IVec S16 32) a x).toNat < S32768.size a := fun i v82 k0_hw60 k0_h1 => k0_hw60.1 k0_h1
theorem k0_idx120_inb : ∀ (i : grid0.Coords) (v82 : IVec S16 32) (k0_hw60 : k0_chk60 i v82), ∀ (k0_h1 : k0_cond1 i = 1#1), ∀ a x, ((![v82] : Fin 1 → IVec S16 32) a x).toNat < S32768.size a := fun i v82 k0_hw60 k0_h1 => k0_hw60.2 k0_h1

def k0_chk61 (i : grid0.Coords) (v117 : IVec S16 32) : Prop :=
  (∀ (k0_h1 : k0_cond1 i = 1#1), ∀ a x, ((![v117] : Fin 1 → IVec S16 32) a x).toNat < S32768.size a) ∧
  (∀ (k0_h1 : k0_cond1 i = 1#1), ∀ a x, ((![v117] : Fin 1 → IVec S16 32) a x).toNat < S32768.size a)
theorem k0_idx121_inb : ∀ (i : grid0.Coords) (v117 : IVec S16 32) (k0_hw61 : k0_chk61 i v117), ∀ (k0_h1 : k0_cond1 i = 1#1), ∀ a x, ((![v117] : Fin 1 → IVec S16 32) a x).toNat < S32768.size a := fun i v117 k0_hw61 k0_h1 => k0_hw61.1 k0_h1
theorem k0_idx122_inb : ∀ (i : grid0.Coords) (v117 : IVec S16 32) (k0_hw61 : k0_chk61 i v117), ∀ (k0_h1 : k0_cond1 i = 1#1), ∀ a x, ((![v117] : Fin 1 → IVec S16 32) a x).toNat < S32768.size a := fun i v117 k0_hw61 k0_h1 => k0_hw61.2 k0_h1

def k0_chk62 (i : grid0.Coords) (v150 : IVec S16 32) : Prop :=
  (∀ (k0_h1 : k0_cond1 i = 1#1), ∀ a x, ((![v150] : Fin 1 → IVec S16 32) a x).toNat < S32768.size a) ∧
  (∀ (k0_h1 : k0_cond1 i = 1#1), ∀ a x, ((![v150] : Fin 1 → IVec S16 32) a x).toNat < S32768.size a)
theorem k0_idx123_inb : ∀ (i : grid0.Coords) (v150 : IVec S16 32) (k0_hw62 : k0_chk62 i v150), ∀ (k0_h1 : k0_cond1 i = 1#1), ∀ a x, ((![v150] : Fin 1 → IVec S16 32) a x).toNat < S32768.size a := fun i v150 k0_hw62 k0_h1 => k0_hw62.1 k0_h1
theorem k0_idx124_inb : ∀ (i : grid0.Coords) (v150 : IVec S16 32) (k0_hw62 : k0_chk62 i v150), ∀ (k0_h1 : k0_cond1 i = 1#1), ∀ a x, ((![v150] : Fin 1 → IVec S16 32) a x).toNat < S32768.size a := fun i v150 k0_hw62 k0_h1 => k0_hw62.2 k0_h1

def k0_chk63 (i : grid0.Coords) (v183 : IVec S16 32) : Prop :=
  (∀ (k0_h1 : k0_cond1 i = 1#1), ∀ a x, ((![v183] : Fin 1 → IVec S16 32) a x).toNat < S32768.size a) ∧
  (∀ (k0_h1 : k0_cond1 i = 1#1), ∀ a x, ((![v183] : Fin 1 → IVec S16 32) a x).toNat < S32768.size a)
theorem k0_idx125_inb : ∀ (i : grid0.Coords) (v183 : IVec S16 32) (k0_hw63 : k0_chk63 i v183), ∀ (k0_h1 : k0_cond1 i = 1#1), ∀ a x, ((![v183] : Fin 1 → IVec S16 32) a x).toNat < S32768.size a := fun i v183 k0_hw63 k0_h1 => k0_hw63.1 k0_h1
theorem k0_idx126_inb : ∀ (i : grid0.Coords) (v183 : IVec S16 32) (k0_hw63 : k0_chk63 i v183), ∀ (k0_h1 : k0_cond1 i = 1#1), ∀ a x, ((![v183] : Fin 1 → IVec S16 32) a x).toNat < S32768.size a := fun i v183 k0_hw63 k0_h1 => k0_hw63.2 k0_h1

def k0_chk64 (i : grid0.Coords) (v216 : IVec S16 32) : Prop :=
  (∀ (k0_h1 : k0_cond1 i = 1#1), ∀ a x, ((![v216] : Fin 1 → IVec S16 32) a x).toNat < S32768.size a) ∧
  (∀ (k0_h1 : k0_cond1 i = 1#1), ∀ a x, ((![v216] : Fin 1 → IVec S16 32) a x).toNat < S32768.size a)
theorem k0_idx127_inb : ∀ (i : grid0.Coords) (v216 : IVec S16 32) (k0_hw64 : k0_chk64 i v216), ∀ (k0_h1 : k0_cond1 i = 1#1), ∀ a x, ((![v216] : Fin 1 → IVec S16 32) a x).toNat < S32768.size a := fun i v216 k0_hw64 k0_h1 => k0_hw64.1 k0_h1
theorem k0_idx128_inb : ∀ (i : grid0.Coords) (v216 : IVec S16 32) (k0_hw64 : k0_chk64 i v216), ∀ (k0_h1 : k0_cond1 i = 1#1), ∀ a x, ((![v216] : Fin 1 → IVec S16 32) a x).toNat < S32768.size a := fun i v216 k0_hw64 k0_h1 => k0_hw64.2 k0_h1

def k0_chk65 (i : grid0.Coords) (v249 : IVec S16 32) : Prop :=
  (∀ (k0_h1 : k0_cond1 i = 1#1), ∀ a x, ((![v249] : Fin 1 → IVec S16 32) a x).toNat < S32768.size a) ∧
  (∀ (k0_h1 : k0_cond1 i = 1#1), ∀ a x, ((![v249] : Fin 1 → IVec S16 32) a x).toNat < S32768.size a)
theorem k0_idx129_inb : ∀ (i : grid0.Coords) (v249 : IVec S16 32) (k0_hw65 : k0_chk65 i v249), ∀ (k0_h1 : k0_cond1 i = 1#1), ∀ a x, ((![v249] : Fin 1 → IVec S16 32) a x).toNat < S32768.size a := fun i v249 k0_hw65 k0_h1 => k0_hw65.1 k0_h1
theorem k0_idx130_inb : ∀ (i : grid0.Coords) (v249 : IVec S16 32) (k0_hw65 : k0_chk65 i v249), ∀ (k0_h1 : k0_cond1 i = 1#1), ∀ a x, ((![v249] : Fin 1 → IVec S16 32) a x).toNat < S32768.size a := fun i v249 k0_hw65 k0_h1 => k0_hw65.2 k0_h1
@[reducible] def k0_t13_loop : Scf.Loop 32 :=
  let c0_i32_57 : BitVec 32 := 0#32
  let c16_i32_58 : BitVec 32 := 16#32
  let v68 : BitVec 32 := Scalar.addi c0_i32_57 c16_i32_58
  let c1_i32_59 : BitVec 32 := 1#32
  ⟨c0_i32_57, v68, c1_i32_59⟩

def k0_chk66 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx131_inb : ∀ (i : grid0.Coords) (v82 : IVec S16 32) (k0_hw66 : k0_chk66 i v82), ∀ (k0_h1 : k0_cond1 i = 1#1), ∀ a x, ((![v82] : Fin 1 → IVec S16 32) a x).toNat < S32768.size a := fun i v82 k0_hw66 k0_h1 => k0_hw66.1 k0_h1
theorem k0_idx132_inb : ∀ (i : grid0.Coords) (v82 : IVec S16 32) (k0_hw66 : k0_chk66 i v82), ∀ (k0_h1 : k0_cond1 i = 1#1), ∀ a x, ((![v82] : Fin 1 → IVec S16 32) a x).toNat < S32768.size a := fun i v82 k0_hw66 k0_h1 => k0_hw66.2 k0_h1

def k0_chk67 (i : grid0.Coords) (v117 : IVec S16 32) : Prop :=
  (∀ (k0_h1 : k0_cond1 i = 1#1), ∀ a x, ((![v117] : Fin 1 → IVec S16 32) a x).toNat < S32768.size a) ∧
  (∀ (k0_h1 : k0_cond1 i = 1#1), ∀ a x, ((![v117] : Fin 1 → IVec S16 32) a x).toNat < S32768.size a)
theorem k0_idx133_inb : ∀ (i : grid0.Coords) (v117 : IVec S16 32) (k0_hw67 : k0_chk67 i v117), ∀ (k0_h1 : k0_cond1 i = 1#1), ∀ a x, ((![v117] : Fin 1 → IVec S16 32) a x).toNat < S32768.size a := fun i v117 k0_hw67 k0_h1 => k0_hw67.1 k0_h1
theorem k0_idx134_inb : ∀ (i : grid0.Coords) (v117 : IVec S16 32) (k0_hw67 : k0_chk67 i v117), ∀ (k0_h1 : k0_cond1 i = 1#1), ∀ a x, ((![v117] : Fin 1 → IVec S16 32) a x).toNat < S32768.size a := fun i v117 k0_hw67 k0_h1 => k0_hw67.2 k0_h1

def k0_chk68 (i : grid0.Coords) (v150 : IVec S16 32) : Prop :=
  (∀ (k0_h1 : k0_cond1 i = 1#1), ∀ a x, ((![v150] : Fin 1 → IVec S16 32) a x).toNat < S32768.size a) ∧
  (∀ (k0_h1 : k0_cond1 i = 1#1), ∀ a x, ((![v150] : Fin 1 → IVec S16 32) a x).toNat < S32768.size a)
theorem k0_idx135_inb : ∀ (i : grid0.Coords) (v150 : IVec S16 32) (k0_hw68 : k0_chk68 i v150), ∀ (k0_h1 : k0_cond1 i = 1#1), ∀ a x, ((![v150] : Fin 1 → IVec S16 32) a x).toNat < S32768.size a := fun i v150 k0_hw68 k0_h1 => k0_hw68.1 k0_h1
theorem k0_idx136_inb : ∀ (i : grid0.Coords) (v150 : IVec S16 32) (k0_hw68 : k0_chk68 i v150), ∀ (k0_h1 : k0_cond1 i = 1#1), ∀ a x, ((![v150] : Fin 1 → IVec S16 32) a x).toNat < S32768.size a := fun i v150 k0_hw68 k0_h1 => k0_hw68.2 k0_h1

def k0_chk69 (i : grid0.Coords) (v183 : IVec S16 32) : Prop :=
  (∀ (k0_h1 : k0_cond1 i = 1#1), ∀ a x, ((![v183] : Fin 1 → IVec S16 32) a x).toNat < S32768.size a) ∧
  (∀ (k0_h1 : k0_cond1 i = 1#1), ∀ a x, ((![v183] : Fin 1 → IVec S16 32) a x).toNat < S32768.size a)
theorem k0_idx137_inb : ∀ (i : grid0.Coords) (v183 : IVec S16 32) (k0_hw69 : k0_chk69 i v183), ∀ (k0_h1 : k0_cond1 i = 1#1), ∀ a x, ((![v183] : Fin 1 → IVec S16 32) a x).toNat < S32768.size a := fun i v183 k0_hw69 k0_h1 => k0_hw69.1 k0_h1
theorem k0_idx138_inb : ∀ (i : grid0.Coords) (v183 : IVec S16 32) (k0_hw69 : k0_chk69 i v183), ∀ (k0_h1 : k0_cond1 i = 1#1), ∀ a x, ((![v183] : Fin 1 → IVec S16 32) a x).toNat < S32768.size a := fun i v183 k0_hw69 k0_h1 => k0_hw69.2 k0_h1

def k0_chk70 (i : grid0.Coords) (v216 : IVec S16 32) : Prop :=
  (∀ (k0_h1 : k0_cond1 i = 1#1), ∀ a x, ((![v216] : Fin 1 → IVec S16 32) a x).toNat < S32768.size a) ∧
  (∀ (k0_h1 : k0_cond1 i = 1#1), ∀ a x, ((![v216] : Fin 1 → IVec S16 32) a x).toNat < S32768.size a)
theorem k0_idx139_inb : ∀ (i : grid0.Coords) (v216 : IVec S16 32) (k0_hw70 : k0_chk70 i v216), ∀ (k0_h1 : k0_cond1 i = 1#1), ∀ a x, ((![v216] : Fin 1 → IVec S16 32) a x).toNat < S32768.size a := fun i v216 k0_hw70 k0_h1 => k0_hw70.1 k0_h1
theorem k0_idx140_inb : ∀ (i : grid0.Coords) (v216 : IVec S16 32) (k0_hw70 : k0_chk70 i v216), ∀ (k0_h1 : k0_cond1 i = 1#1), ∀ a x, ((![v216] : Fin 1 → IVec S16 32) a x).toNat < S32768.size a := fun i v216 k0_hw70 k0_h1 => k0_hw70.2 k0_h1
@[reducible] def k0_t14_loop : Scf.Loop 32 :=
  let c0_i32_61 : BitVec 32 := 0#32
  let c16_i32_62 : BitVec 32 := 16#32
  let v70 : BitVec 32 := Scalar.addi c0_i32_61 c16_i32_62
  let c1_i32_63 : BitVec 32 := 1#32
  ⟨c0_i32_61, v70, c1_i32_63⟩

def k0_chk71 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx141_inb : ∀ (i : grid0.Coords) (v82 : IVec S16 32) (k0_hw71 : k0_chk71 i v82), ∀ (k0_h1 : k0_cond1 i = 1#1), ∀ a x, ((![v82] : Fin 1 → IVec S16 32) a x).toNat < S32768.size a := fun i v82 k0_hw71 k0_h1 => k0_hw71.1 k0_h1
theorem k0_idx142_inb : ∀ (i : grid0.Coords) (v82 : IVec S16 32) (k0_hw71 : k0_chk71 i v82), ∀ (k0_h1 : k0_cond1 i = 1#1), ∀ a x, ((![v82] : Fin 1 → IVec S16 32) a x).toNat < S32768.size a := fun i v82 k0_hw71 k0_h1 => k0_hw71.2 k0_h1

def k0_chk72 (i : grid0.Coords) (v117 : IVec S16 32) : Prop :=
  (∀ (k0_h1 : k0_cond1 i = 1#1), ∀ a x, ((![v117] : Fin 1 → IVec S16 32) a x).toNat < S32768.size a) ∧
  (∀ (k0_h1 : k0_cond1 i = 1#1), ∀ a x, ((![v117] : Fin 1 → IVec S16 32) a x).toNat < S32768.size a)
theorem k0_idx143_inb : ∀ (i : grid0.Coords) (v117 : IVec S16 32) (k0_hw72 : k0_chk72 i v117), ∀ (k0_h1 : k0_cond1 i = 1#1), ∀ a x, ((![v117] : Fin 1 → IVec S16 32) a x).toNat < S32768.size a := fun i v117 k0_hw72 k0_h1 => k0_hw72.1 k0_h1
theorem k0_idx144_inb : ∀ (i : grid0.Coords) (v117 : IVec S16 32) (k0_hw72 : k0_chk72 i v117), ∀ (k0_h1 : k0_cond1 i = 1#1), ∀ a x, ((![v117] : Fin 1 → IVec S16 32) a x).toNat < S32768.size a := fun i v117 k0_hw72 k0_h1 => k0_hw72.2 k0_h1

def k0_chk73 (i : grid0.Coords) (v150 : IVec S16 32) : Prop :=
  (∀ (k0_h1 : k0_cond1 i = 1#1), ∀ a x, ((![v150] : Fin 1 → IVec S16 32) a x).toNat < S32768.size a) ∧
  (∀ (k0_h1 : k0_cond1 i = 1#1), ∀ a x, ((![v150] : Fin 1 → IVec S16 32) a x).toNat < S32768.size a)
theorem k0_idx145_inb : ∀ (i : grid0.Coords) (v150 : IVec S16 32) (k0_hw73 : k0_chk73 i v150), ∀ (k0_h1 : k0_cond1 i = 1#1), ∀ a x, ((![v150] : Fin 1 → IVec S16 32) a x).toNat < S32768.size a := fun i v150 k0_hw73 k0_h1 => k0_hw73.1 k0_h1
theorem k0_idx146_inb : ∀ (i : grid0.Coords) (v150 : IVec S16 32) (k0_hw73 : k0_chk73 i v150), ∀ (k0_h1 : k0_cond1 i = 1#1), ∀ a x, ((![v150] : Fin 1 → IVec S16 32) a x).toNat < S32768.size a := fun i v150 k0_hw73 k0_h1 => k0_hw73.2 k0_h1

def k0_chk74 (i : grid0.Coords) (v183 : IVec S16 32) : Prop :=
  (∀ (k0_h1 : k0_cond1 i = 1#1), ∀ a x, ((![v183] : Fin 1 → IVec S16 32) a x).toNat < S32768.size a) ∧
  (∀ (k0_h1 : k0_cond1 i = 1#1), ∀ a x, ((![v183] : Fin 1 → IVec S16 32) a x).toNat < S32768.size a)
theorem k0_idx147_inb : ∀ (i : grid0.Coords) (v183 : IVec S16 32) (k0_hw74 : k0_chk74 i v183), ∀ (k0_h1 : k0_cond1 i = 1#1), ∀ a x, ((![v183] : Fin 1 → IVec S16 32) a x).toNat < S32768.size a := fun i v183 k0_hw74 k0_h1 => k0_hw74.1 k0_h1
theorem k0_idx148_inb : ∀ (i : grid0.Coords) (v183 : IVec S16 32) (k0_hw74 : k0_chk74 i v183), ∀ (k0_h1 : k0_cond1 i = 1#1), ∀ a x, ((![v183] : Fin 1 → IVec S16 32) a x).toNat < S32768.size a := fun i v183 k0_hw74 k0_h1 => k0_hw74.2 k0_h1
@[reducible] def k0_t15_loop : Scf.Loop 32 :=
  let c0_i32_65 : BitVec 32 := 0#32
  let c16_i32_66 : BitVec 32 := 16#32
  let v72 : BitVec 32 := Scalar.addi c0_i32_65 c16_i32_66
  let c1_i32_67 : BitVec 32 := 1#32
  ⟨c0_i32_65, v72, c1_i32_67⟩

def k0_chk75 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx149_inb : ∀ (i : grid0.Coords) (v82 : IVec S16 32) (k0_hw75 : k0_chk75 i v82), ∀ (k0_h1 : k0_cond1 i = 1#1), ∀ a x, ((![v82] : Fin 1 → IVec S16 32) a x).toNat < S32768.size a := fun i v82 k0_hw75 k0_h1 => k0_hw75.1 k0_h1
theorem k0_idx150_inb : ∀ (i : grid0.Coords) (v82 : IVec S16 32) (k0_hw75 : k0_chk75 i v82), ∀ (k0_h1 : k0_cond1 i = 1#1), ∀ a x, ((![v82] : Fin 1 → IVec S16 32) a x).toNat < S32768.size a := fun i v82 k0_hw75 k0_h1 => k0_hw75.2 k0_h1

def k0_chk76 (i : grid0.Coords) (v117 : IVec S16 32) : Prop :=
  (∀ (k0_h1 : k0_cond1 i = 1#1), ∀ a x, ((![v117] : Fin 1 → IVec S16 32) a x).toNat < S32768.size a) ∧
  (∀ (k0_h1 : k0_cond1 i = 1#1), ∀ a x, ((![v117] : Fin 1 → IVec S16 32) a x).toNat < S32768.size a)
theorem k0_idx151_inb : ∀ (i : grid0.Coords) (v117 : IVec S16 32) (k0_hw76 : k0_chk76 i v117), ∀ (k0_h1 : k0_cond1 i = 1#1), ∀ a x, ((![v117] : Fin 1 → IVec S16 32) a x).toNat < S32768.size a := fun i v117 k0_hw76 k0_h1 => k0_hw76.1 k0_h1
theorem k0_idx152_inb : ∀ (i : grid0.Coords) (v117 : IVec S16 32) (k0_hw76 : k0_chk76 i v117), ∀ (k0_h1 : k0_cond1 i = 1#1), ∀ a x, ((![v117] : Fin 1 → IVec S16 32) a x).toNat < S32768.size a := fun i v117 k0_hw76 k0_h1 => k0_hw76.2 k0_h1

def k0_chk77 (i : grid0.Coords) (v150 : IVec S16 32) : Prop :=
  (∀ (k0_h1 : k0_cond1 i = 1#1), ∀ a x, ((![v150] : Fin 1 → IVec S16 32) a x).toNat < S32768.size a) ∧
  (∀ (k0_h1 : k0_cond1 i = 1#1), ∀ a x, ((![v150] : Fin 1 → IVec S16 32) a x).toNat < S32768.size a)
theorem k0_idx153_inb : ∀ (i : grid0.Coords) (v150 : IVec S16 32) (k0_hw77 : k0_chk77 i v150), ∀ (k0_h1 : k0_cond1 i = 1#1), ∀ a x, ((![v150] : Fin 1 → IVec S16 32) a x).toNat < S32768.size a := fun i v150 k0_hw77 k0_h1 => k0_hw77.1 k0_h1
theorem k0_idx154_inb : ∀ (i : grid0.Coords) (v150 : IVec S16 32) (k0_hw77 : k0_chk77 i v150), ∀ (k0_h1 : k0_cond1 i = 1#1), ∀ a x, ((![v150] : Fin 1 → IVec S16 32) a x).toNat < S32768.size a := fun i v150 k0_hw77 k0_h1 => k0_hw77.2 k0_h1
@[reducible] def k0_t16_loop : Scf.Loop 32 :=
  let c0_i32_69 : BitVec 32 := 0#32
  let c16_i32_70 : BitVec 32 := 16#32
  let v74 : BitVec 32 := Scalar.addi c0_i32_69 c16_i32_70
  let c1_i32_71 : BitVec 32 := 1#32
  ⟨c0_i32_69, v74, c1_i32_71⟩

def k0_chk78 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx155_inb : ∀ (i : grid0.Coords) (v82 : IVec S16 32) (k0_hw78 : k0_chk78 i v82), ∀ (k0_h1 : k0_cond1 i = 1#1), ∀ a x, ((![v82] : Fin 1 → IVec S16 32) a x).toNat < S32768.size a := fun i v82 k0_hw78 k0_h1 => k0_hw78.1 k0_h1
theorem k0_idx156_inb : ∀ (i : grid0.Coords) (v82 : IVec S16 32) (k0_hw78 : k0_chk78 i v82), ∀ (k0_h1 : k0_cond1 i = 1#1), ∀ a x, ((![v82] : Fin 1 → IVec S16 32) a x).toNat < S32768.size a := fun i v82 k0_hw78 k0_h1 => k0_hw78.2 k0_h1

def k0_chk79 (i : grid0.Coords) (v117 : IVec S16 32) : Prop :=
  (∀ (k0_h1 : k0_cond1 i = 1#1), ∀ a x, ((![v117] : Fin 1 → IVec S16 32) a x).toNat < S32768.size a) ∧
  (∀ (k0_h1 : k0_cond1 i = 1#1), ∀ a x, ((![v117] : Fin 1 → IVec S16 32) a x).toNat < S32768.size a)
theorem k0_idx157_inb : ∀ (i : grid0.Coords) (v117 : IVec S16 32) (k0_hw79 : k0_chk79 i v117), ∀ (k0_h1 : k0_cond1 i = 1#1), ∀ a x, ((![v117] : Fin 1 → IVec S16 32) a x).toNat < S32768.size a := fun i v117 k0_hw79 k0_h1 => k0_hw79.1 k0_h1
theorem k0_idx158_inb : ∀ (i : grid0.Coords) (v117 : IVec S16 32) (k0_hw79 : k0_chk79 i v117), ∀ (k0_h1 : k0_cond1 i = 1#1), ∀ a x, ((![v117] : Fin 1 → IVec S16 32) a x).toNat < S32768.size a := fun i v117 k0_hw79 k0_h1 => k0_hw79.2 k0_h1
@[reducible] def k0_t17_loop : Scf.Loop 32 :=
  let c0_i32_73 : BitVec 32 := 0#32
  let c15_i32 : BitVec 32 := 15#32
  let v76 : BitVec 32 := Scalar.addi c0_i32_73 c15_i32
  let c1_i32_74 : BitVec 32 := 1#32
  ⟨c0_i32_73, v76, c1_i32_74⟩

def k0_chk80 (i : grid0.Coords) (v82 : IVec S16 32) : Prop :=
  (∀ (k0_h1 : k0_cond1 i = 1#1), ∀ a x, ((![v82] : Fin 1 → IVec S16 32) a x).toNat < S32768.size a) ∧
  (∀ (k0_h1 : k0_cond1 i = 1#1), ∀ a x, ((![v82] : Fin 1 → IVec S16 32) a x).toNat < S32768.size a)
theorem k0_idx159_inb : ∀ (i : grid0.Coords) (v82 : IVec S16 32) (k0_hw80 : k0_chk80 i v82), ∀ (k0_h1 : k0_cond1 i = 1#1), ∀ a x, ((![v82] : Fin 1 → IVec S16 32) a x).toNat < S32768.size a := fun i v82 k0_hw80 k0_h1 => k0_hw80.1 k0_h1
theorem k0_idx160_inb : ∀ (i : grid0.Coords) (v82 : IVec S16 32) (k0_hw80 : k0_chk80 i v82), ∀ (k0_h1 : k0_cond1 i = 1#1), ∀ a x, ((![v82] : Fin 1 → IVec S16 32) a x).toNat < S32768.size a := fun i v82 k0_hw80 k0_h1 => k0_hw80.2 k0_h1
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x128x256 : Shape := ⟨3, ![8, 128, 256]⟩
abbrev S8x129x257 : Shape := ⟨3, ![8, 129, 257]⟩
abbrev S_ : Shape := ⟨0, ![]⟩
abbrev S1x8x128x256 : Shape := ⟨4, ![1, 8, 128, 256]⟩
abbrev S3x8x128x256 : Shape := ⟨4, ![3, 8, 128, 256]⟩

abbrev nBuf : Space → Nat
  | .hbm => 89
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S8x129x257, .i32⟩
  | .hbm, ⟨2, _⟩ => ⟨S8x129x257, .i32⟩
  | .hbm, ⟨3, _⟩ => ⟨S_, .i32⟩
  | .hbm, ⟨4, _⟩ => ⟨S8x129x257, .i32⟩
  | .hbm, ⟨5, _⟩ => ⟨S8x129x257, .i1⟩
  | .hbm, ⟨6, _⟩ => ⟨S_, .i32⟩
  | .hbm, ⟨7, _⟩ => ⟨S8x129x257, .i32⟩
  | .hbm, ⟨8, _⟩ => ⟨S8x129x257, .i1⟩
  | .hbm, ⟨9, _⟩ => ⟨S8x129x257, .i1⟩
  | .hbm, ⟨10, _⟩ => ⟨S_, .f32⟩
  | .hbm, ⟨11, _⟩ => ⟨S_, .f32⟩
  | .hbm, ⟨12, _⟩ => ⟨S8x129x257, .f32⟩
  | .hbm, ⟨13, _⟩ => ⟨S8x129x257, .f32⟩
  | .hbm, ⟨14, _⟩ => ⟨S8x129x257, .f32⟩
  | .hbm, ⟨15, _⟩ => ⟨S_, .f32⟩
  | .hbm, ⟨16, _⟩ => ⟨S8x128x256, .f32⟩
  | .hbm, ⟨17, _⟩ => ⟨S_, .i32⟩
  | .hbm, ⟨18, _⟩ => ⟨S_, .f32⟩
  | .hbm, ⟨19, _⟩ => ⟨S8x129x257, .f32⟩
  | .hbm, ⟨20, _⟩ => ⟨S_, .i32⟩
  | .hbm, ⟨21, _⟩ => ⟨S8x129x257, .i32⟩
  | .hbm, ⟨22, _⟩ => ⟨S8x129x257, .i1⟩
  | .hbm, ⟨23, _⟩ => ⟨S_, .i32⟩
  | .hbm, ⟨24, _⟩ => ⟨S8x129x257, .i32⟩
  | .hbm, ⟨25, _⟩ => ⟨S8x129x257, .i1⟩
  | .hbm, ⟨26, _⟩ => ⟨S8x129x257, .i1⟩
  | .hbm, ⟨27, _⟩ => ⟨S8x129x257, .f32⟩
  | .hbm, ⟨28, _⟩ => ⟨S8x129x257, .f32⟩
  | .hbm, ⟨29, _⟩ => ⟨S_, .i32⟩
  | .hbm, ⟨30, _⟩ => ⟨S8x128x256, .f32⟩
  | .hbm, ⟨31, _⟩ => ⟨S8x129x257, .i32⟩
  | .hbm, ⟨32, _⟩ => ⟨S8x129x257, .i32⟩
  | .hbm, ⟨33, _⟩ => ⟨S8x129x257, .f32⟩
  | .hbm, ⟨34, _⟩ => ⟨S_, .i32⟩
  | .hbm, ⟨35, _⟩ => ⟨S8x129x257, .f32⟩
  | .hbm, ⟨36, _⟩ => ⟨S_, .i32⟩
  | .hbm, ⟨37, _⟩ => ⟨S_, .i1⟩
  | .hbm, ⟨38, _⟩ => ⟨S8x128x256, .f32⟩
  | .hbm, ⟨39, _⟩ => ⟨S8x128x256, .f32⟩
  | .hbm, ⟨40, _⟩ => ⟨S8x128x256, .f32⟩
  | .hbm, ⟨41, _⟩ => ⟨S1x8x128x256, .f32⟩
  | .hbm, ⟨42, _⟩ => ⟨S1x8x128x256, .f32⟩
  | .hbm, ⟨43, _⟩ => ⟨S1x8x128x256, .f32⟩
  | .hbm, ⟨44, _⟩ => ⟨S3x8x128x256, .f32⟩
  | .hbm, ⟨45, _⟩ => ⟨S1x8x128x256, .f32⟩
  | .hbm, ⟨46, _⟩ => ⟨S3x8x128x256, .f32⟩
  | .hbm, ⟨47, _⟩ => ⟨S3x8x128x256, .f32⟩
  | .hbm, ⟨48, _⟩ => ⟨S_, .f32⟩
  | .hbm, ⟨49, _⟩ => ⟨S8x128x256, .f32⟩
  | .hbm, ⟨50, _⟩ => ⟨S1x8x128x256, .f32⟩
  | .hbm, ⟨51, _⟩ => ⟨S3x8x128x256, .f32⟩
  | .hbm, ⟨52, _⟩ => ⟨S3x8x128x256, .f32⟩
  | .hbm, ⟨53, _⟩ => ⟨S3x8x128x256, .f32⟩
  | .hbm, ⟨54, _⟩ => ⟨S_, .f32⟩
  | .hbm, ⟨55, _⟩ => ⟨S8x128x256, .f32⟩
  | .hbm, ⟨56, _⟩ => ⟨S_, .f32⟩
  | .hbm, ⟨57, _⟩ => ⟨S8x128x256, .f32⟩
  | .hbm, ⟨58, _⟩ => ⟨S8x128x256, .f32⟩
  | .hbm, ⟨59, _⟩ => ⟨S_, .f32⟩
  | .hbm, ⟨60, _⟩ => ⟨S8x128x256, .f32⟩
  | .hbm, ⟨61, _⟩ => ⟨S8x128x256, .f32⟩
  | .hbm, ⟨62, _⟩ => ⟨S8x128x256, .f32⟩
  | .hbm, ⟨63, _⟩ => ⟨S_, .f32⟩
  | .hbm, ⟨64, _⟩ => ⟨S8x128x256, .f32⟩
  | .hbm, ⟨65, _⟩ => ⟨S8x128x256, .f32⟩
  | .hbm, ⟨66, _⟩ => ⟨S8x128x256, .f32⟩
  | .hbm, ⟨67, _⟩ => ⟨S8x128x256, .f32⟩
  | .hbm, ⟨68, _⟩ => ⟨S8x128x256, .f32⟩
  | .hbm, ⟨69, _⟩ => ⟨S_, .f32⟩
  | .hbm, ⟨70, _⟩ => ⟨S8x128x256, .f32⟩
  | .hbm, ⟨71, _⟩ => ⟨S8x128x256, .f32⟩
  | .hbm, ⟨72, _⟩ => ⟨S8x128x256, .f32⟩
  | .hbm, ⟨73, _⟩ => ⟨S8x128x256, .f32⟩
  | .hbm, ⟨74, _⟩ => ⟨S_, .i32⟩
  | .hbm, ⟨75, _⟩ => ⟨S_, .f32⟩
  | .hbm, ⟨76, _⟩ => ⟨S8x129x257, .f32⟩
  | .hbm, ⟨77, _⟩ => ⟨S_, .i32⟩
  | .hbm, ⟨78, _⟩ => ⟨S8x129x257, .i32⟩
  | .hbm, ⟨79, _⟩ => ⟨S8x129x257, .i1⟩
  | .hbm, ⟨80, _⟩ => ⟨S_, .i32⟩
  | .hbm, ⟨81, _⟩ => ⟨S8x129x257, .i32⟩
  | .hbm, ⟨82, _⟩ => ⟨S8x129x257, .i1⟩
  | .hbm, ⟨83, _⟩ => ⟨S8x129x257, .i1⟩
  | .hbm, ⟨84, _⟩ => ⟨S8x129x257, .f32⟩
  | .hbm, ⟨85, _⟩ => ⟨S8x129x257, .f32⟩
  | .hbm, ⟨86, _⟩ => ⟨S_, .i32⟩
  | .hbm, ⟨87, _⟩ => ⟨S_, .i32⟩
  | .hbm, ⟨88, _⟩ => ⟨S8x128x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_c_3 : Ref sig .tc := ⟨.hbm, 17, rfl⟩
abbrev main_call1_v0 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call2_v0 : Ref sig .tc := ⟨.hbm, 27, rfl⟩
abbrev main_v15 : Ref sig .tc := ⟨.hbm, 28, rfl⟩
abbrev main_c_6 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_while0c_c_12 : Ref sig .tc := ⟨.hbm, 36, rfl⟩
abbrev main_while0c_v18 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_v24 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_cst_12 : Ref sig .tc := ⟨.hbm, 48, rfl⟩
abbrev main_while0b_v28 : Ref sig .tc := ⟨.hbm, 49, rfl⟩
abbrev main_while0b_v29 : Ref sig .tc := ⟨.hbm, 50, rfl⟩
abbrev main_while0b_v30 : Ref sig .tc := ⟨.hbm, 51, rfl⟩
abbrev main_while0b_v31 : Ref sig .tc := ⟨.hbm, 52, rfl⟩
abbrev main_while0b_v32 : Ref sig .tc := ⟨.hbm, 53, rfl⟩
abbrev main_while0b_cst_13 : Ref sig .tc := ⟨.hbm, 54, rfl⟩
abbrev main_while0b_v33 : Ref sig .tc := ⟨.hbm, 55, rfl⟩
abbrev main_while0b_cst_14 : Ref sig .tc := ⟨.hbm, 56, rfl⟩
abbrev main_while0b_v34 : Ref sig .tc := ⟨.hbm, 57, rfl⟩
abbrev main_while0b_v35 : Ref sig .tc := ⟨.hbm, 58, rfl⟩
abbrev main_while0b_cst_15 : Ref sig .tc := ⟨.hbm, 59, rfl⟩
abbrev main_while0b_v36 : Ref sig .tc := ⟨.hbm, 60, rfl⟩
abbrev main_while0b_v37 : Ref sig .tc := ⟨.hbm, 61, rfl⟩
abbrev main_while0b_v38 : Ref sig .tc := ⟨.hbm, 62, rfl⟩
abbrev main_while0b_cst_16 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_cst_17 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_c_18 : Ref sig .tc := ⟨.hbm, 74, rfl⟩
abbrev main_while0b_call3_v0 : Ref sig .tc := ⟨.hbm, 75, rfl⟩
abbrev main_while0b_v48 : Ref sig .tc := ⟨.hbm, 76, rfl⟩
abbrev main_while0b_c_19 : Ref sig .tc := ⟨.hbm, 77, rfl⟩
abbrev main_while0b_v49 : Ref sig .tc := ⟨.hbm, 78, rfl⟩
abbrev main_while0b_v50 : Ref sig .tc := ⟨.hbm, 79, rfl⟩
abbrev main_while0b_c_20 : Ref sig .tc := ⟨.hbm, 80, rfl⟩
abbrev main_while0b_v51 : Ref sig .tc := ⟨.hbm, 81, rfl⟩
abbrev main_while0b_v52 : Ref sig .tc := ⟨.hbm, 82, rfl⟩
abbrev main_while0b_v53 : Ref sig .tc := ⟨.hbm, 83, rfl⟩
abbrev main_while0b_call4_v0 : Ref sig .tc := ⟨.hbm, 84, rfl⟩
abbrev main_while0b_v54 : Ref sig .tc := ⟨.hbm, 85, rfl⟩
abbrev main_while0b_c_21 : Ref sig .tc := ⟨.hbm, 86, rfl⟩
abbrev main_while0b_v55 : Ref sig .tc := ⟨.hbm, 87, rfl⟩
abbrev main_v17 : Ref sig .tc := ⟨.hbm, 88, rfl⟩

abbrev nD : Nat := 1
abbrev τ : Topo := Topo.v7x

variable {F : FTy → Type} [FloatOps F]

abbrev main_while0_count : Scf.Loop 32 := ⟨0#32, 383#32, 1#32⟩
-- ==== Proof.Table.lean ====
/-
  The table one tile computes, and what sixteen rows of it look like at one antidiagonal.

  `mu W i j` is the table of the recurrence over the batch's cost matrix `W` (read flat, row-major, 256 wide), in
  the kernel's own order of operations; `dg W i n` is its entry on row `i` of the antidiagonal `n = i + j`, with the
  border value wherever the column would be negative. The kernel carries, for each group `v` of sixteen rows, three
  vectors: the entry to the left (`IsD`), above (`IsS`) and above left (`IsT`) of the cell each lane computes next.
  The lemmas here are the moves of the kernel on them, over any element type.
-/
module

public import proofs.«01_k».proof.Proof.Gen.KernelIdeal.Skeleton

@[expose] public section

noncomputable section

namespace Cert.Proof.Table

open Cert.KernelIdeal Cert.KernelIdeal.Gen
open Idealize.ShloMosaic Idealize.SL.Sem

variable {F : FTy → Type} [FloatOps F]

/-- Sixteen lanes of values, and of words. -/
abbrev V16 (F : FTy → Type) : Type := FVec F S16 .f32
abbrev I16 : Type := IVec S16 32

/-! ## The recurrence -/

/-- The border's value. -/
def negV : F .f32 := Scalar.ofBits .f32 0xE0AD78EC#32
/-- The corner's value. -/
def zeroV : F .f32 := Scalar.ofBits .f32 0x00000000#32

/-- The cubic in place of the logarithm, by Horner's rule. -/
def cubicVec (s : V16 F) : V16 F :=
  addf (mulf (addf (mulf (addf (mulf (broadcast S16 (Scalar.ofBits .f32 0x3D4F64F1#32)) s)
    (broadcast S16 (Scalar.ofBits .f32 0xBEE3C576#32))) s) (broadcast S16 (Scalar.ofBits .f32 0x3FD5B758#32))) s)
    (broadcast S16 (Scalar.ofBits .f32 0xBFA29022#32))

/-- One step of sixteen cells: the left, upper and upper left neighbours and the costs. -/
def cellVec (d s t w : V16 F) : V16 F :=
  addf (cubicVec (addf (addf (exp (subf d (maximumf (maximumf d s) t))) (exp (subf s (maximumf (maximumf d s) t))))
    (exp (subf t (maximumf (maximumf d s) t))))) (addf (maximumf (maximumf d s) t) w)

/-- One cell: a step of sixteen equal ones, at any lane. -/
def cell (d s t w : F .f32) : F .f32 :=
  cellVec (fun _ => d) (fun _ => s) (fun _ => t) (fun _ => w) (fun a => ⟨0, by rw [Fin.eq_zero a]; decide⟩)

theorem cellVec_apply (d s t w : V16 F) (l : S16.Idx) : cellVec d s t w l = cell (d l) (s l) (t l) (w l) := rfl

/-- A place of a batch's flat matrix. -/
def place (n : ℕ) : S32768.Idx := fun _ => ⟨n % 32768, by rename_i a; rw [Fin.eq_zero a]; exact Nat.mod_lt _ (by decide)⟩

theorem place_val (n : ℕ) (h : n < 32768) : (place n 0).val = n := Nat.mod_eq_of_lt h

theorem place_eq {p : S32768.Idx} {n : ℕ} (h : (p 0).val = n) : p = place n := by
  funext a
  rw [Fin.eq_zero a]
  apply Fin.ext
  have : (p 0).val < 32768 := (p 0).isLt
  show (p 0).val = n % 32768
  rw [h] at this ⊢
  exact (Nat.mod_eq_of_lt this).symm

/-- The table. -/
def mu (W : S32768.Idx → F .f32) : ℕ → ℕ → F .f32
  | 0, 0 => zeroV
  | 0, _ + 1 => negV
  | _ + 1, 0 => negV
  | i + 1, j + 1 => cell (mu W (i + 1) j) (mu W i (j + 1)) (mu W i j) (W (place (i * 256 + j)))
termination_by i j => (i, j)

/-- The table by antidiagonals. -/
def dg (W : S32768.Idx → F .f32) (i n : ℕ) : F .f32 := if n < i then negV else mu W i (n - i)

variable (W : S32768.Idx → F .f32)

theorem dg_border {i n : ℕ} (h : n ≤ i) (h0 : 1 ≤ i) : dg W i n = negV := by
  unfold dg
  split
  · rfl
  · obtain rfl : n = i := by omega
    obtain ⟨m, rfl⟩ : ∃ m, n = m + 1 := ⟨n - 1, by omega⟩
    rw [Nat.sub_self, mu]

theorem dg_top {n : ℕ} (h : 1 ≤ n) : dg W 0 n = negV := by
  obtain ⟨m, rfl⟩ : ∃ m, n = m + 1 := ⟨n - 1, by omega⟩
  unfold dg
  rw [if_neg (by omega), Nat.sub_zero, mu]

theorem dg_corner : dg W 0 0 = zeroV := by
  unfold dg
  rw [if_neg (by omega), Nat.sub_zero, mu]

theorem dg_cell (i j : ℕ) : dg W (i + 1) (i + j + 2)
    = cell (dg W (i + 1) (i + j + 1)) (dg W i (i + j + 1)) (dg W i (i + j)) (W (place (i * 256 + j))) := by
  unfold dg
  rw [if_neg (by omega), if_neg (by omega), if_neg (by omega), if_neg (by omega), show i + j + 2 - (i + 1) = j + 1 by omega,
    show i + j + 1 - (i + 1) = j by omega, show i + j + 1 - i = j + 1 by omega, show i + j - i = j by omega, mu]

/-- The entry of an antidiagonal inside the table. -/
theorem dg_eq_mu {i j k : ℕ} (h : i + 1 + (j + 1) = k) : dg W (i + 1) k = mu W (i + 1) (j + 1) := by
  subst h
  unfold dg
  rw [if_neg (by omega), show i + 1 + (j + 1) - (i + 1) = j + 1 by omega]

/-! ## What a group of sixteen rows holds -/

/-- The row of a lane of a group. -/
def row (v : ℕ) (l : S16.Idx) : ℕ := 16 * v + (l 0).val + 1

theorem lane_lt (l : S16.Idx) : (l 0).val < 16 := (l 0).isLt

/-- Lane `n`. -/
def lane (n : Fin 16) : S16.Idx := fun a => ⟨n.val, by rw [Fin.eq_zero a]; exact n.isLt⟩

theorem lane_eq (l : S16.Idx) : l = lane (l 0) := by
  funext a; rw [Fin.eq_zero a]; rfl

def IsD (v k : ℕ) (x : V16 F) : Prop := ∀ l, k ≤ row v l + 256 → x l = dg W (row v l) (k - 1)
def IsS (v k : ℕ) (x : V16 F) : Prop := ∀ l, k ≤ row v l + 256 → x l = dg W (row v l - 1) (k - 1)
def IsT (v k : ℕ) (x : V16 F) : Prop := ∀ l, k ≤ row v l + 256 → x l = dg W (row v l - 1) (k - 2)
/-- What step `k` computes for the group. -/
def IsV (v k : ℕ) (x : V16 F) : Prop := ∀ l, k ≤ row v l + 256 → x l = dg W (row v l) k
/-- The flat places of the cells step `k` computes for the group. -/
def IsIdx (v k : ℕ) (x : I16) : Prop := ∀ l, (x l).toNat + 257 = row v l * 255 + k
/-- The lanes of the group whose cell of antidiagonal `k` is inside the table. -/
def IsMask (v k : ℕ) (x : IVec S16 1) : Prop := ∀ l, x l = 1#1 ↔ row v l + 1 ≤ k ∧ k ≤ row v l + 256
/-- Lane zero. -/
def IsLane0 (x : IVec S16 1) : Prop := ∀ l, x l = 1#1 ↔ (l 0).val = 0
/-- The rows of the group, and the rows times 255. -/
def IsRow (v : ℕ) (x : I16) : Prop := ∀ l, (x l).toNat = row v l
def IsRow255 (v : ℕ) (x : I16) : Prop := ∀ l, (x l).toNat = row v l * 255
def IsNeg (x : V16 F) : Prop := ∀ l, x l = negV

variable {W} {v k : ℕ}

theorem IsV.isD {x : V16 F} (h : IsV W v k x) : IsD W v (k + 1) x := fun l hl => by
  rw [h l (by omega), Nat.add_sub_cancel]

theorem IsS.isT {x : V16 F} (h : IsS W v k x) : IsT W v (k + 1) x := fun l hl => h l (by omega)

/-! ### A row group not reached yet -/

theorem idleD {x : V16 F} (hx : IsNeg x) (hk : k ≤ 16 * v + 2) : IsD W v k x := fun l _ => by
  rw [hx l, dg_border] <;> unfold row <;> omega
theorem idleS {x : V16 F} (hx : IsNeg x) (h2 : 2 ≤ k) (hk : k ≤ 16 * v + 1 ∨ v = 0 ∧ k = 2) : IsS W v k x := fun l _ => by
  rw [hx l]
  by_cases h : row v l - 1 = 0
  · rw [h, dg_top]; omega
  · rw [dg_border] <;> unfold row at * <;> omega
theorem idleT {x : V16 F} (hx : IsNeg x) (hv : 1 ≤ v) (hk : k ≤ 16 * v + 2) : IsT W v k x := fun l _ => by
  rw [hx l, dg_border] <;> unfold row <;> omega

/-! ### A row group whose rows are all done -/

theorem pastD {x : V16 F} (hk : 16 * v + 273 ≤ k) : IsD W v k x := fun l hl => by
  have := lane_lt l; unfold row at hl; omega
theorem pastS {x : V16 F} (hk : 16 * v + 273 ≤ k) : IsS W v k x := fun l hl => by
  have := lane_lt l; unfold row at hl; omega
theorem pastT {x : V16 F} (hk : 16 * v + 273 ≤ k) : IsT W v k x := fun l hl => by
  have := lane_lt l; unfold row at hl; omega

/-! ### The index vector, the masks -/

theorem toNat_add_sub {a : BitVec 32} {b : BitVec 32} {r k : ℕ} (ha : a.toNat = r * 255) (hb : b.toNat = k) (hr : 1 ≤ r) (hr' : r ≤ 128)
    (hk : 2 ≤ k) (hk' : k ≤ 400) : (a + (b - 257#32)).toNat + 257 = r * 255 + k := by
  rw [BitVec.toNat_add, BitVec.toNat_sub, ha, hb]
  simp only [BitVec.toNat_ofNat]
  omega

/-- A step's number, as the loop computes it. -/
theorem step_num (b t : ℕ) (hb : b < 400) (ht : t < 400) :
    (Scalar.addi (BitVec.ofNat 32 b) (Scalar.muli (Scf.iv 0#32 1#32 t) 1#32)).toNat = b + t := by
  show (BitVec.ofNat 32 b + (0#32 + BitVec.ofNat 32 t * 1#32) * 1#32).toNat = b + t
  simp only [BitVec.toNat_add, BitVec.toNat_mul, BitVec.toNat_ofNat]
  omega

theorem isIdx_of {c : I16} {kb : BitVec 32} (hv : v ≤ 7) (hc : IsRow255 v c) (hk : kb.toNat = k) (h2 : 2 ≤ k) (h4 : k ≤ 400) :
    IsIdx v k (addi c (broadcast S16 (Scalar.subi kb 257#32))) := fun l => by
  have := lane_lt l
  exact toNat_add_sub (hc l) hk (by unfold row; omega) (by unfold row; omega) h2 h4

theorem IsIdx.lt {x : I16} (hv : v ≤ 7) (h4 : k ≤ 384) (h : IsIdx v k x) (l : S16.Idx) : (x l).toNat < 32768 := by
  have := h l; have := lane_lt l; unfold row at *; omega

/-- The bounds check of a gather and a scatter at an index vector. -/
theorem chk_of {x : I16} (hv : v ≤ 7) (h4 : k ≤ 384) (h : IsIdx v k x) {p : Prop} :
    (p → ∀ a l, ((![x] : Fin 1 → I16) a l).toNat < S32768.size a) ∧ (p → ∀ a l, ((![x] : Fin 1 → I16) a l).toNat < S32768.size a) := by
  have : ∀ a l, ((![x] : Fin 1 → I16) a l).toNat < S32768.size a := fun a l => by
    rw [Fin.eq_zero a]; exact h.lt hv h4 l
  exact ⟨fun _ => this, fun _ => this⟩

/-- A group wholly inside the table. -/
theorem isMask_full (h1 : 16 * v + 17 ≤ k) (h2 : k ≤ 16 * v + 257) : IsMask v k (fun _ => 1#1) := fun l => by
  have := lane_lt l
  exact ⟨fun _ => by unfold row; omega, fun _ => rfl⟩

theorem ofBool_one {b : Bool} : BitVec.ofBool b = 1#1 ↔ b = true := by cases b <;> decide

/-- A group the wavefront is entering. -/
theorem isMask_grow {r : I16} {kb : BitVec 32} (hv : v ≤ 7) (hr : IsRow v r) (hk : kb.toNat = k) (h1 : 2 ≤ k) (h2 : k ≤ 16 * v + 257) :
    IsMask v k (cmpi .sle r (broadcast S16 (Scalar.subi kb 1#32))) := fun l => by
  have hl := lane_lt l
  have hrl := hr l
  have e : cmpi .sle r (broadcast S16 (Scalar.subi kb 1#32)) l = 1#1 ↔ (r l).toInt ≤ (kb - 1#32).toInt := by
    show BitVec.ofBool (BitVec.sle (r l) (kb - 1#32)) = 1#1 ↔ _
    rw [BitVec.sle_eq_decide, ofBool_one, decide_eq_true_iff]
  have hs : (kb - 1#32).toNat = k - 1 := by
    rw [BitVec.toNat_sub, hk]; simp only [BitVec.toNat_ofNat]; omega
  rw [e, BitVec.toInt_eq_toNat_cond, BitVec.toInt_eq_toNat_cond, hs, hrl]
  unfold row
  constructor
  · intro h; split at h <;> split at h <;> omega
  · intro h; split <;> split <;> omega

/-- A group the wavefront is leaving. -/
theorem isMask_shrink {r : I16} {kb : BitVec 32} (hv : v ≤ 7) (hr : IsRow v r) (hk : kb.toNat = k) (h1 : 16 * v + 17 ≤ k) (h0 : 258 ≤ k) (h2 : k ≤ 400) :
    IsMask v k (cmpi .sge r (broadcast S16 (Scalar.subi kb 256#32))) := fun l => by
  have hl := lane_lt l
  have hrl := hr l
  have e : cmpi .sge r (broadcast S16 (Scalar.subi kb 256#32)) l = 1#1 ↔ (kb - 256#32).toInt ≤ (r l).toInt := by
    show BitVec.ofBool (BitVec.sle (kb - 256#32) (r l)) = 1#1 ↔ _
    rw [BitVec.sle_eq_decide, ofBool_one, decide_eq_true_iff]
  have hs : (kb - 256#32).toNat = k - 256 := by
    rw [BitVec.toNat_sub, hk]; simp only [BitVec.toNat_ofNat]; omega
  rw [e, BitVec.toInt_eq_toNat_cond, BitVec.toInt_eq_toNat_cond, hs, hrl]
  unfold row
  constructor
  · intro h; split at h <;> split at h <;> omega
  · intro h; split <;> split <;> omega

/-! ### A step of a group -/

/-- The costs a step reads for the group. -/
abbrev gath (W : S32768.Idx → F .f32) (idx : I16) (h : ∀ a l, ((![idx] : Fin 1 → I16) a l).toNat < S32768.size a) : V16 F :=
  loadIdx (F := F) (s := S32768) (t := S16) (e := .f32) W ![idx] h

theorem gathered {idx : I16} {h : ∀ a l, ((![idx] : Fin 1 → I16) a l).toNat < S32768.size a} (hi : IsIdx v k idx) (l : S16.Idx)
    (hk : row v l + 1 ≤ k) : gath W idx h l = W (place ((row v l - 1) * 256 + (k - row v l - 1))) := by
  refine congrArg W (place_eq ?_)
  show (idx l).toNat = _
  have := hi l
  have : 1 ≤ row v l := by unfold row; omega
  omega

theorem cell_of {d s t : V16 F} {idx : I16} {h : ∀ a l, ((![idx] : Fin 1 → I16) a l).toNat < S32768.size a} (hd : IsD W v k d) (hs : IsS W v k s)
    (ht : IsT W v k t) (hi : IsIdx v k idx) (l : S16.Idx) (h1 : row v l + 1 ≤ k) (h2 : k ≤ row v l + 256) :
    cellVec d s t (gath W idx h) l = dg W (row v l) k := by
  rw [cellVec_apply, hd l h2, hs l h2, ht l h2, gathered hi l h1]
  obtain ⟨i, hr⟩ : ∃ i, row v l = i + 1 := ⟨row v l - 1, by unfold row; omega⟩
  obtain ⟨j, rfl⟩ : ∃ j, k = i + j + 2 := ⟨k - i - 2, by omega⟩
  rw [hr, dg_cell, show i + j + 2 - 1 = i + j + 1 by omega, show i + 1 - 1 = i by omega, show i + j + 2 - 2 = i + j by omega,
    show i + j + 2 - (i + 1) - 1 = j by omega]

theorem isV_full {d s t : V16 F} {idx : I16} {h : ∀ a l, ((![idx] : Fin 1 → I16) a l).toNat < S32768.size a} (hd : IsD W v k d) (hs : IsS W v k s)
    (ht : IsT W v k t) (hi : IsIdx v k idx) (h1 : 16 * v + 17 ≤ k) : IsV W v k (cellVec d s t (gath W idx h)) := fun l hl => by
  have := lane_lt l
  exact cell_of hd hs ht hi l (by unfold row; omega) hl

theorem isV_masked {d s t : V16 F} {idx : I16} {m : IVec S16 1} {h : ∀ a l, ((![idx] : Fin 1 → I16) a l).toNat < S32768.size a} (hd : IsD W v k d)
    (hs : IsS W v k s) (ht : IsT W v k t) (hi : IsIdx v k idx) (hm : IsMask v k m) :
    IsV W v k (select m (cellVec d s t (gath W idx h)) (broadcast S16 (Scalar.ofBits .f32 0xE0AD78EC#32))) := fun l hl => by
  show (if m l = 1#1 then _ else _) = _
  split
  · next h1 => exact cell_of hd hs ht hi l ((hm l).1 h1).1 hl
  · next h1 =>
    rw [hm l] at h1
    exact (dg_border W (by omega) (by unfold row; omega)).symm

/-! ### Moving a group's values down a row -/

/-- The vector one lane along, its first lane kept. -/
def along (x : V16 F) : V16 F :=
  concatenate S16 0 [⟨S1, extractStridedSlice S1 ![0] x slices_S16_o0_S1⟩, ⟨S15, extractStridedSlice S15 ![0] x slices_S16_o0_S15⟩]
    concatenates_S1_S15_S16_d0

/-- The vector's last lane in every lane. -/
def lastOf (x : V16 F) : V16 F :=
  broadcast S16 (extractAt ![0] (extractStridedSlice S1 ![15] x slices_S16_o15_S1) inpos_S1_p0)

theorem along_lane (x : V16 F) (n : Fin 15) : along x (lane n.succ) = x (lane n.castSucc) := by
  fin_cases n <;> exact congrArg x (funext fun a => by rw [Fin.eq_zero a]; rfl)

theorem along_apply (x : V16 F) (l : S16.Idx) (h : (l 0).val ≠ 0) :
    along x l = x (lane ⟨(l 0).val - 1, by have := lane_lt l; omega⟩) := by
  have hl := lane_lt l
  have e : lane (Fin.succ ⟨(l 0).val - 1, by omega⟩) = l := by
    refine Eq.trans (congrArg lane (Fin.ext ?_)) (lane_eq l).symm
    show (l 0).val - 1 + 1 = (l 0).val
    omega
  have := along_lane x ⟨(l 0).val - 1, by omega⟩
  rw [e] at this
  exact this

theorem lastOf_apply (x : V16 F) (l : S16.Idx) : lastOf x l = x (lane 15) :=
  congrArg x (funext fun a => by rw [Fin.eq_zero a]; rfl)

theorem row_lane (v : ℕ) (n : Fin 16) : row v (lane n) = 16 * v + n.val + 1 := rfl

theorem shifted {x c : V16 F} {m : IVec S16 1} (hm : IsLane0 m) (hx : IsV W v k x)
    (hc : ∀ l, k ≤ 16 * v + 256 → c l = dg W (16 * v) k) : IsS W v (k + 1) (select m c (along x)) := fun l hl => by
  have hlt := lane_lt l
  show (if m l = 1#1 then _ else _) = _
  split
  · next h =>
    rw [hm l] at h
    rw [hc l (by unfold row at hl; omega)]
    congr 1
    unfold row; omega
  · next h =>
    rw [hm l] at h
    rw [along_apply x l h, hx _ (by rw [row_lane]; unfold row at hl; show k ≤ 16 * v + ((l 0).val - 1) + 1 + 256; omega), row_lane]
    congr 1
    show 16 * v + ((l 0).val - 1) + 1 = row v l - 1
    unfold row; omega

/-- The first group, the border above it. -/
theorem shift_top {x c : V16 F} {m : IVec S16 1} (hm : IsLane0 m) (hc : IsNeg c) (hx : IsV W 0 k x) (hk : 1 ≤ k) :
    IsS W 0 (k + 1) (select m c (along x)) :=
  shifted hm hx fun l _ => by rw [hc l, Nat.mul_zero, dg_top W hk]

/-- A group whose upper neighbour is done. -/
theorem shift_past {x c : V16 F} {m : IVec S16 1} (hm : IsLane0 m) (hx : IsV W v k x) (hk : 16 * v + 257 ≤ k) :
    IsS W v (k + 1) (select m c (along x)) :=
  shifted hm hx fun l h => by omega

theorem lastOf_eq {x : V16 F} {u : ℕ} (hx : IsV W u k x) (l : S16.Idx) (h : k ≤ 16 * (u + 1) + 256) : lastOf x l = dg W (16 * (u + 1)) k := by
  rw [lastOf_apply, hx _ (by rw [row_lane]; show k ≤ 16 * u + 15 + 1 + 256; omega), row_lane]
  congr 1

/-- A group, its upper neighbour's last value coming in. -/
theorem shift_next {x y : V16 F} {m : IVec S16 1} {u : ℕ} (hm : IsLane0 m) (hx : IsV W (u + 1) k x) (hy : IsV W u k y) :
    IsS W (u + 1) (k + 1) (select m (lastOf y) (along x)) :=
  shifted hm hx fun l h => lastOf_eq hy l h

/-- The group below the last one entered. -/
theorem shift_first {y s : V16 F} {m : IVec S16 1} {u : ℕ} (hm : IsLane0 m) (hy : IsV W u k y) (hs : IsS W (u + 1) k s)
    (hk : k ≤ 16 * (u + 1) + 1) (h2 : 2 ≤ k) : IsS W (u + 1) (k + 1) (select m (lastOf y) s) := fun l hl => by
  have hlt := lane_lt l
  show (if m l = 1#1 then _ else _) = _
  split
  · next h =>
    rw [hm l] at h
    rw [lastOf_eq hy l (by omega)]
    congr 1
    unfold row; omega
  · next h =>
    rw [hm l] at h
    rw [hs l (by omega), dg_border W (by unfold row; omega) (by unfold row; omega), dg_border W (by unfold row; omega) (by unfold row; omega)]

/-! ### The table in memory -/

/-- Every cell before antidiagonal `k`, and those of `k` above group `v`, is in `o`. -/
def Done (W : S32768.Idx → F .f32) (k v : ℕ) (o : S32768.Idx → F .f32) : Prop :=
  ∀ i j, i < 128 → j < 256 → (i + j + 2 < k ∨ i + j + 2 = k ∧ i < 16 * v) → o (place (i * 256 + j)) = mu W (i + 1) (j + 1)

theorem Done.start {o : S32768.Idx → F .f32} : Done W 2 0 o := fun i j _ _ h => by omega
theorem Done.next {o : S32768.Idx → F .f32} (h : Done W k v o) (hk : k ≤ 16 * v + 1 ∨ 8 ≤ v) : Done W (k + 1) 0 o := fun i j hi hj h' =>
  h i j hi hj (by omega)
theorem Done.skip {o : S32768.Idx → F .f32} (h : Done W k 0 o) (hk : 16 * v + 258 ≤ k) : Done W k v o := fun i j hi hj h' =>
  h i j hi hj (by omega)

theorem foldl_hit {α β : Type} [DecidableEq α] (L : List β) (mk : β → Prop) [DecidablePred mk] (ix : β → α) (val : β → F .f32) (p : α) (y : F .f32)
    (hall : ∀ b ∈ L, mk b → ix b = p → val b = y) (f : α → F .f32) (hex : f p = y ∨ ∃ b ∈ L, mk b ∧ ix b = p) :
    (L.foldl (fun g b => if mk b then fun q => if q = ix b then val b else g q else g) f) p = y := by
  induction L generalizing f with
  | nil => rcases hex with h | ⟨b, hb, _⟩; exacts [h, absurd hb List.not_mem_nil]
  | cons b L ih =>
    rw [List.foldl_cons]
    refine ih (fun c hc => hall c (List.mem_cons_of_mem _ hc)) _ ?_
    by_cases hm : mk b
    · rw [if_pos hm]
      by_cases hp : p = ix b
      · left; rw [if_pos hp]; exact hall b List.mem_cons_self hm hp.symm
      · rw [if_neg hp]
        rcases hex with h | ⟨c, hc, h1, h2⟩
        · exact .inl h
        · rcases List.mem_cons.1 hc with rfl | hc
          · exact absurd h2.symm hp
          · exact .inr ⟨c, hc, h1, h2⟩
    · rw [if_neg hm]
      rcases hex with h | ⟨c, hc, h1, h2⟩
      · exact .inl h
      · rcases List.mem_cons.1 hc with rfl | hc
        · exact absurd h1 hm
        · exact .inr ⟨c, hc, h1, h2⟩

theorem scattered {o x : S32768.Idx → F .f32} {val : V16 F} {idx : I16} {m : IVec S16 1}
    {h : ∀ a l, ((![idx] : Fin 1 → I16) a l).toNat < S32768.size a} (p : S32768.Idx) (y : F .f32)
    (hall : ∀ l, m l = 1#1 → (idx l).toNat = (p 0).val → val l = y)
    (hex : o p = y ∨ ∃ l, m l = 1#1 ∧ (idx l).toNat = (p 0).val) :
    storeIdx (F := F) (s := S32768) (e := .f32) (d := ![16]) o ![idx] val m false h p = y := by
  have key : ∀ (i q : S32768.Idx), (∀ a, (q a).val = (i a).val) ↔ q = i := fun i q =>
    ⟨fun h => funext fun a => Fin.ext (h a), fun h => by rw [h]; intro a; rfl⟩
  have hix : ∀ l, idxAt (![idx] : Fin 1 → I16) h l = p ↔ (idx l).toNat = (p 0).val := fun l =>
    ⟨fun e => by rw [← e]; rfl, fun e => by rw [← key]; intro a; rw [Fin.eq_zero a]; exact e⟩
  have := foldl_hit (List.finRange 16) (fun n => m (Shape.ofLane (d := ![16]) n) = 1)
    (fun n => idxAt (s := S32768) (![idx] : Fin 1 → I16) h (Shape.ofLane (d := ![16]) n)) (fun n => val (Shape.ofLane (d := ![16]) n)) p y
    (fun n _ hm hi => hall _ hm ((hix _).1 hi)) o (by
      rcases hex with h' | ⟨l, h1, h2⟩
      · exact .inl h'
      · have e : (Shape.ofLane (d := ![16]) (l 0) : S16.Idx) = l := funext fun a => by rw [Fin.eq_zero a]; rfl
        exact .inr ⟨l 0, List.mem_finRange _, by rw [e]; exact h1, by rw [hix, e]; exact h2⟩)
  unfold storeIdx
  simp only [key, Bool.false_eq_true, if_false]
  exact this

theorem Done.store {o : S32768.Idx → F .f32} {val : V16 F} {idx : I16} {m : IVec S16 1}
    {h : ∀ a l, ((![idx] : Fin 1 → I16) a l).toNat < S32768.size a} (hv : v ≤ 7) (hi : IsIdx v k idx) (hm : IsMask v k m) (hx : IsV W v k val) (hd : Done W k v o) :
    Done W k (v + 1) (storeIdx (F := F) (s := S32768) (e := .f32) (d := ![16]) o ![idx] val m false h) := fun i j hi' hj h' => by
  have hp : (place (i * 256 + j) 0).val = i * 256 + j := place_val _ (by omega)
  have hhit : ∀ l, m l = 1#1 → (idx l).toNat = (place (i * 256 + j) 0).val → i + 1 = row v l ∧ i + 1 + (j + 1) = k := fun l h1 h2 => by
    rw [hm l] at h1; rw [hp] at h2
    have := hi l
    have : 1 ≤ row v l := by unfold row; omega
    omega
  refine scattered (x := o) _ _ (fun l h1 h2 => ?_) ?_
  · obtain ⟨e1, e2⟩ := hhit l h1 h2
    rw [hx l ((hm l).1 h1).2, ← e1, dg_eq_mu W e2]
  · by_cases hb : i + j + 2 < k ∨ i + j + 2 = k ∧ i < 16 * v
    · exact .inl (hd i j hi' hj hb)
    · have e : row v (lane ⟨i - 16 * v, by omega⟩) = i + 1 := by rw [row_lane]; show 16 * v + (i - 16 * v) + 1 = i + 1; omega
      refine .inr ⟨lane ⟨i - 16 * v, by omega⟩, ?_, ?_⟩
      · rw [hm, e]; omega
      · rw [hp]; have := hi (lane ⟨i - 16 * v, by omega⟩); rw [e] at this; omega

-- from here on the facts are used through the lemmas above
attribute [irreducible] IsD IsS IsT IsV IsIdx IsMask IsLane0 IsRow IsRow255 IsNeg Done

end Cert.Proof.Table
-- ==== Proof.Run.lean ====
/-
  The kernel between its two copies touches only a tile's two scratches: it gathers from the costs' and scatters into
  the table's. `Runs d L W o p Q` says that part of a run as a plain Hoare triple — from the costs `W` and the table's
  scratch at `o`, the program `p` runs to a result and a scratch related by `Q`, the costs unchanged —, so that the
  kernel's steps are proved about vectors of values only.
-/
module

public import proofs.«01_k».proof.Defs
public import proofs.«01_k».proof.Proof.Table
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen Cert.Proof.Table

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

/-- The handshakes' rounds beside the transfers' counters. -/
abbrev UH : Type := URounds (GSem nD τ sig) ℕ
abbrev UU : Type := UH × Counters

local notation "𝕄" => MT nD τ sig (HIx 1) (Elt F) ℕ UU ℕ

/-- The tile a body's coordinates name. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The costs' scratch and the table's. -/
abbrev wM : Memref sig .scVector .vmem S32768 .f32 := Memref.whole cc0_scratch0
abbrev oM : Memref sig .scVector .vmem S32768 .f32 := Memref.whole cc0_scratch1

abbrev Flat (F : FTy → Type) : Type := S32768.Idx → F .f32
/-- What a tile's body is written in. -/
abbrev TProg (F : FTy → Type) (L : grid0.Coords) (α : Type) : Type 1 :=
  Prog (TpuEff nD τ sig (Elt F) Λ₀ (.scVector ((L 0).castLE hcore0) ((L 1).castLE hsub0))) α

abbrev wPts (d : Dev nD) (L : grid0.Coords) (f : Flat F) : sProp 𝕄 := wM.view.loc (thr d L) ↦{fullShare} (f : Buf (Elt F) (wM.view.loc (thr d L)))
abbrev oPts (d : Dev nD) (L : grid0.Coords) (f : Flat F) : sProp 𝕄 := oM.view.loc (thr d L) ↦{fullShare} (f : Buf (Elt F) (oM.view.loc (thr d L)))

variable (d : Dev nD) (L : grid0.Coords) (W : Flat F)

abbrev wpT {α : Type} (p : TProg F L α) (Q : α → sProp 𝕄) : sProp 𝕄 :=
  wp frame (wpE (defs₀ (F := F)) 𝒱₀ (thr d L) none) Set.univ p Q

def Runs {α : Type} (o : Flat F) (p : TProg F L α) (Q : α → Flat F → Prop) : Prop :=
  iprop(wPts d L W ∗ oPts d L o) ⊢ wpT d L p fun a => iprop(∃ o', ⌜Q a o'⌝ ∗ wPts d L W ∗ oPts d L o')

variable {d L W} {α β : Type} {o : Flat F} {Q : α → Flat F → Prop}

theorem Runs.ret {a : α} (h : Q a o) : Runs d L W o (Prog.ret a) Q := by
  unfold Runs wpT
  iintro ⟨Hw, Ho⟩
  rw [wp_ret]
  imodintro
  iexists o
  isplitr
  · ipureintro; exact h
  · isplitl [Hw] <;> iassumption

theorem Runs.assume {p : Prop} {dec : Decidable p} {k : PLift p → TProg F L α} (h : p) (hk : Runs d L W o (k ⟨h⟩) Q) :
    Runs d L W o (Prog.op (.assume p dec) k) Q := by
  unfold Runs wpT at *
  rw [wp_assume_of _ _ _ _ h]
  exact hk

theorem Runs.loadW {hl : wM.view.LoadsAt (LoadRect.whole S32768)} {k : Flat F → TProg F L α} (hk : Runs d L W o (k W) Q) :
    Runs d L W o (Prog.op (.load wM (.whole S32768) hl) k) Q := by
  unfold Runs wpT at *
  have e : wM.view.readAt (Elt F) (LoadRect.whole S32768) W = W := Memref.readAt_whole (Elt F) cc0_scratch0 W
  iintro ⟨Hw, Ho⟩
  iapply (wp_load 𝒱₀ (thr d L) none Set.univ (m := wM) (r := LoadRect.whole S32768) (hl := hl) (k := k) (S := Finset.univ) (q := fullShare)
    (Finset.subset_univ _)) $$ Hw
  iintro Hw
  rw [e]
  iapply hk
  isplitl [Hw] <;> iassumption

theorem Runs.loadO {hl : oM.view.LoadsAt (LoadRect.whole S32768)} {k : Flat F → TProg F L α} (hk : Runs d L W o (k o) Q) :
    Runs d L W o (Prog.op (.load oM (.whole S32768) hl) k) Q := by
  unfold Runs wpT at *
  have e : oM.view.readAt (Elt F) (LoadRect.whole S32768) o = o := Memref.readAt_whole (Elt F) cc0_scratch1 o
  iintro ⟨Hw, Ho⟩
  iapply (wp_load 𝒱₀ (thr d L) none Set.univ (m := oM) (r := LoadRect.whole S32768) (hl := hl) (k := k) (S := Finset.univ) (q := fullShare)
    (Finset.subset_univ _)) $$ Ho
  iintro Ho
  rw [e]
  iapply hk
  isplitl [Hw] <;> iassumption

theorem Runs.storeO {x : Flat F} {hx : (oM.access (.whole S32768)).Stores Finset.univ}
    {hm : (Finset.univ : Finset (Rect.whole S32768).shape.Idx) = Finset.univ ∨ _}
    {k : PUnit → TProg F L α} (hk : Runs d L W x (k ⟨⟩) Q) :
    Runs d L W o (Prog.op (.store oM (.whole S32768) x Finset.univ hx hm) k) Q := by
  unfold Runs wpT at *
  have e : (oM.access (Rect.whole S32768)).write (Elt F) o x Finset.univ = x := Memref.write_access_whole_univ (Elt F) cc0_scratch1 o x
  iintro ⟨Hw, Ho⟩
  iapply (wp_store 𝒱₀ (thr d L) none Set.univ (m := oM) (r := Rect.whole S32768) (hx := hx) (hm := hm) (k := k) (S := Finset.univ)
    (Finset.subset_univ _)) $$ Ho
  iintro Ho
  rw [e]
  iapply hk
  isplitl [Hw] <;> iassumption

theorem Runs.bind {R : β → Flat F → Prop} {p : TProg F L β} {f : β → TProg F L α} (hp : Runs d L W o p R)
    (hf : ∀ b o', R b o' → Runs d L W o' (f b) Q) : Runs d L W o (p >>= f) Q := by
  unfold Runs wpT at *
  rw [wp_bind]
  refine hp.trans (wp_mono _ _ _ fun b => ?_)
  iintro ⟨%o', %h, Hw, Ho⟩
  iapply (hf b o' h)
  isplitl [Hw] <;> iassumption

theorem Runs.loop {σ : Type} (l : Scf.Loop 32) (hok : l.OK) (init : σ) (body : Fin l.trips → σ → TProg F L σ) (I : ℕ → σ → Flat F → Prop)
    (h0 : I 0 init o) (hb : ∀ (t : Fin l.trips) acc o', I t.val acc o' → Runs d L W o' (body t acc) (I (t.val + 1))) :
    Runs d L W o (Scf.Loop.for l hok init body) (I l.trips) := by
  unfold Runs wpT at *
  have hbody : ∀ (t : Fin l.trips) (acc : σ), iprop(∃ o', ⌜I t.val acc o'⌝ ∗ wPts d L W ∗ oPts d L o')
      ⊢ wp frame (wpE (defs₀ (F := F)) 𝒱₀ (thr d L) none) Set.univ (body t acc)
        (fun acc' => iprop(∃ o', ⌜I (t.val + 1) acc' o'⌝ ∗ wPts d L W ∗ oPts d L o')) := fun t acc => by
    iintro ⟨%o', %h, Hw, Ho⟩
    iapply (hb t acc o' h)
    isplitl [Hw] <;> iassumption
  iintro ⟨Hw, Ho⟩
  iapply (Scf.wp_for _ (wpE (defs₀ (F := F)) 𝒱₀ (thr d L) none) Set.univ l.lb l.ub l.st hok init body
    (fun t acc => iprop(∃ o', ⌜I t acc o'⌝ ∗ wPts d L W ∗ oPts d L o')) hbody)
  isplitl [Hw Ho]
  · iexists o
    isplitr
    · ipureintro; exact h0
    · isplitl [Hw] <;> iassumption
  · iintro %acc H
    iexact H

/-- A group's scatter: the cells of its rows on antidiagonal `k` join the table. -/
theorem Runs.scatter {v k : ℕ} {val : V16 F} {idx : I16} {m : IVec S16 1} {h : ∀ a l, ((![idx] : Fin 1 → I16) a l).toNat < S32768.size a}
    {hx : (oM.access (.whole S32768)).Stores Finset.univ} {hm : (Finset.univ : Finset (Rect.whole S32768).shape.Idx) = Finset.univ ∨ _}
    {kk : PUnit → TProg F L α} (hd : Done W k v o) (hv : v ≤ 7) (hi : IsIdx v k idx) (hmk : IsMask v k m) (hval : IsV W v k val)
    (hk : ∀ o', Done W k (v + 1) o' → IsV W v k val → Runs d L W o' (kk ⟨⟩) Q) :
    Runs d L W o (Prog.op (.store oM (.whole S32768) (storeIdx (F := F) (s := S32768) (e := .f32) (d := ![16]) o ![idx] val m false h) Finset.univ hx hm) kk) Q :=
  Runs.storeO (hk _ (hd.store hv hi hmk hval) hval)

attribute [irreducible] Runs

end Cert.Proof.Run
-- ==== Proof.Steps.lean ====
/-
  The kernel's loops, one trip at a time. Loop `n`'s carried vectors are the left (`d`), upper (`s`) and upper left
  (`t`) neighbours of the row groups it still moves; `Gn W k` says that they are the table's, before step `k`, and that
  the table's scratch holds every cell of the antidiagonals before `k`. Loops 1 to 8 let the groups in one by one, loop 9
  moves all eight, loops 10 to 17 let them out. Each trip takes `Gn W k` to `Gn W (k + 1)`.
-/
module

public import proofs.«01_k».proof.Proof.Run

@[expose] public section

noncomputable section

namespace Cert.Proof.Steps

open Cert.KernelIdeal Cert.KernelIdeal.Gen Cert.Proof.Table Cert.Proof.Run
open Idealize.ShloMosaic Idealize.SL.Sem

variable {F : FTy → Type} [FloatOps F]

/-- A family of facts over the groups from `v` on. -/
def Fam (P : ℕ → ℕ → V16 F → Prop) (k : ℕ) : ℕ → List (V16 F) → Prop
  | _, [] => True
  | v, x :: xs => P v k x ∧ Fam P k (v + 1) xs

/-- The wavefront before step `k`: the left and upper neighbours of the groups from `v` on, the upper left neighbours
    of them all, and the table so far. -/
def Wave (W : Flat F) (k v : ℕ) (D S T : List (V16 F)) (o : Flat F) : Prop :=
  Fam (IsD W) k v D ∧ Fam (IsS W) k v S ∧ Fam (IsT W) k 0 T ∧ Done W k 0 o

def G1 (W : Flat F) (k : ℕ) : V16 F × V16 F × V16 F × V16 F × V16 F × V16 F × V16 F × V16 F × V16 F × V16 F × V16 F → Flat F → Prop :=
  fun (d0, s0, s1, t0, t1, t2, t3, t4, t5, t6, t7) o => Wave W k 0 [d0] [s0, s1] [t0, t1, t2, t3, t4, t5, t6, t7] o

def G2 (W : Flat F) (k : ℕ) : V16 F × V16 F × V16 F × V16 F × V16 F × V16 F × V16 F × V16 F × V16 F × V16 F × V16 F × V16 F × V16 F → Flat F → Prop :=
  fun (d0, d1, s0, s1, s2, t0, t1, t2, t3, t4, t5, t6, t7) o => Wave W k 0 [d0, d1] [s0, s1, s2] [t0, t1, t2, t3, t4, t5, t6, t7] o

def G3 (W : Flat F) (k : ℕ) : V16 F × V16 F × V16 F × V16 F × V16 F × V16 F × V16 F × V16 F × V16 F × V16 F × V16 F × V16 F × V16 F × V16 F × V16 F → Flat F → Prop :=
  fun (d0, d1, d2, s0, s1, s2, s3, t0, t1, t2, t3, t4, t5, t6, t7) o => Wave W k 0 [d0, d1, d2] [s0, s1, s2, s3] [t0, t1, t2, t3, t4, t5, t6, t7] o

def G4 (W : Flat F) (k : ℕ) : V16 F × V16 F × V16 F × V16 F × V16 F × V16 F × V16 F × V16 F × V16 F × V16 F × V16 F × V16 F × V16 F × V16 F × V16 F × V16 F × V16 F → Flat F → Prop :=
  fun (d0, d1, d2, d3, s0, s1, s2, s3, s4, t0, t1, t2, t3, t4, t5, t6, t7) o => Wave W k 0 [d0, d1, d2, d3] [s0, s1, s2, s3, s4] [t0, t1, t2, t3, t4, t5, t6, t7] o

def G5 (W : Flat F) (k : ℕ) : V16 F × V16 F × V16 F × V16 F × V16 F × V16 F × V16 F × V16 F × V16 F × V16 F × V16 F × V16 F × V16 F × V16 F × V16 F × V16 F × V16 F × V16 F × V16 F → Flat F → Prop :=
  fun (d0, d1, d2, d3, d4, s0, s1, s2, s3, s4, s5, t0, t1, t2, t3, t4, t5, t6, t7) o => Wave W k 0 [d0, d1, d2, d3, d4] [s0, s1, s2, s3, s4, s5] [t0, t1, t2, t3, t4, t5, t6, t7] o

def G6 (W : Flat F) (k : ℕ) : V16 F × V16 F × V16 F × V16 F × V16 F × V16 F × V16 F × V16 F × V16 F × V16 F × V16 F × V16 F × V16 F × V16 F × V16 F × V16 F × V16 F × V16 F × V16 F × V16 F × V16 F → Flat F → Prop :=
  fun (d0, d1, d2, d3, d4, d5, s0, s1, s2, s3, s4, s5, s6, t0, t1, t2, t3, t4, t5, t6, t7) o => Wave W k 0 [d0, d1, d2, d3, d4, d5] [s0, s1, s2, s3, s4, s5, s6] [t0, t1, t2, t3, t4, t5, t6, t7] o

def G7 (W : Flat F) (k : ℕ) : V16 F × V16 F × V16 F × V16 F × V16 F × V16 F × V16 F × V16 F × V16 F × V16 F × V16 F × V16 F × V16 F × V16 F × V16 F × V16 F × V16 F × V16 F × V16 F × V16 F × V16 F × V16 F × V16 F → Flat F → Prop :=
  fun (d0, d1, d2, d3, d4, d5, d6, s0, s1, s2, s3, s4, s5, s6, s7, t0, t1, t2, t3, t4, t5, t6, t7) o => Wave W k 0 [d0, d1, d2, d3, d4, d5, d6] [s0, s1, s2, s3, s4, s5, s6, s7] [t0, t1, t2, t3, t4, t5, t6, t7] o

def G8 (W : Flat F) (k : ℕ) : V16 F × V16 F × V16 F × V16 F × V16 F × V16 F × V16 F × V16 F × V16 F × V16 F × V16 F × V16 F × V16 F × V16 F × V16 F × V16 F × V16 F × V16 F × V16 F × V16 F × V16 F × V16 F × V16 F × V16 F → Flat F → Prop :=
  fun (d0, d1, d2, d3, d4, d5, d6, d7, s0, s1, s2, s3, s4, s5, s6, s7, t0, t1, t2, t3, t4, t5, t6, t7) o => Wave W k 0 [d0, d1, d2, d3, d4, d5, d6, d7] [s0, s1, s2, s3, s4, s5, s6, s7] [t0, t1, t2, t3, t4, t5, t6, t7] o

def G9 (W : Flat F) (k : ℕ) : V16 F × V16 F × V16 F × V16 F × V16 F × V16 F × V16 F × V16 F × V16 F × V16 F × V16 F × V16 F × V16 F × V16 F × V16 F × V16 F × V16 F × V16 F × V16 F × V16 F × V16 F × V16 F × V16 F × V16 F → Flat F → Prop :=
  fun (d0, d1, d2, d3, d4, d5, d6, d7, s0, s1, s2, s3, s4, s5, s6, s7, t0, t1, t2, t3, t4, t5, t6, t7) o => Wave W k 0 [d0, d1, d2, d3, d4, d5, d6, d7] [s0, s1, s2, s3, s4, s5, s6, s7] [t0, t1, t2, t3, t4, t5, t6, t7] o

def G10 (W : Flat F) (k : ℕ) : V16 F × V16 F × V16 F × V16 F × V16 F × V16 F × V16 F × V16 F × V16 F × V16 F × V16 F × V16 F × V16 F × V16 F × V16 F × V16 F × V16 F × V16 F × V16 F × V16 F × V16 F × V16 F × V16 F × V16 F → Flat F → Prop :=
  fun (d0, d1, d2, d3, d4, d5, d6, d7, s0, s1, s2, s3, s4, s5, s6, s7, t0, t1, t2, t3, t4, t5, t6, t7) o => Wave W k 0 [d0, d1, d2, d3, d4, d5, d6, d7] [s0, s1, s2, s3, s4, s5, s6, s7] [t0, t1, t2, t3, t4, t5, t6, t7] o

def G11 (W : Flat F) (k : ℕ) : V16 F × V16 F × V16 F × V16 F × V16 F × V16 F × V16 F × V16 F × V16 F × V16 F × V16 F × V16 F × V16 F × V16 F × V16 F × V16 F × V16 F × V16 F × V16 F × V16 F × V16 F × V16 F → Flat F → Prop :=
  fun (d1, d2, d3, d4, d5, d6, d7, s1, s2, s3, s4, s5, s6, s7, t0, t1, t2, t3, t4, t5, t6, t7) o => Wave W k 1 [d1, d2, d3, d4, d5, d6, d7] [s1, s2, s3, s4, s5, s6, s7] [t0, t1, t2, t3, t4, t5, t6, t7] o

def G12 (W : Flat F) (k : ℕ) : V16 F × V16 F × V16 F × V16 F × V16 F × V16 F × V16 F × V16 F × V16 F × V16 F × V16 F × V16 F × V16 F × V16 F × V16 F × V16 F × V16 F × V16 F × V16 F × V16 F → Flat F → Prop :=
  fun (d2, d3, d4, d5, d6, d7, s2, s3, s4, s5, s6, s7, t0, t1, t2, t3, t4, t5, t6, t7) o => Wave W k 2 [d2, d3, d4, d5, d6, d7] [s2, s3, s4, s5, s6, s7] [t0, t1, t2, t3, t4, t5, t6, t7] o

def G13 (W : Flat F) (k : ℕ) : V16 F × V16 F × V16 F × V16 F × V16 F × V16 F × V16 F × V16 F × V16 F × V16 F × V16 F × V16 F × V16 F × V16 F × V16 F × V16 F × V16 F × V16 F → Flat F → Prop :=
  fun (d3, d4, d5, d6, d7, s3, s4, s5, s6, s7, t0, t1, t2, t3, t4, t5, t6, t7) o => Wave W k 3 [d3, d4, d5, d6, d7] [s3, s4, s5, s6, s7] [t0, t1, t2, t3, t4, t5, t6, t7] o

def G14 (W : Flat F) (k : ℕ) : V16 F × V16 F × V16 F × V16 F × V16 F × V16 F × V16 F × V16 F × V16 F × V16 F × V16 F × V16 F × V16 F × V16 F × V16 F × V16 F → Flat F → Prop :=
  fun (d4, d5, d6, d7, s4, s5, s6, s7, t0, t1, t2, t3, t4, t5, t6, t7) o => Wave W k 4 [d4, d5, d6, d7] [s4, s5, s6, s7] [t0, t1, t2, t3, t4, t5, t6, t7] o

def G15 (W : Flat F) (k : ℕ) : V16 F × V16 F × V16 F × V16 F × V16 F × V16 F × V16 F × V16 F × V16 F × V16 F × V16 F × V16 F × V16 F × V16 F → Flat F → Prop :=
  fun (d5, d6, d7, s5, s6, s7, t0, t1, t2, t3, t4, t5, t6, t7) o => Wave W k 5 [d5, d6, d7] [s5, s6, s7] [t0, t1, t2, t3, t4, t5, t6, t7] o

def G16 (W : Flat F) (k : ℕ) : V16 F × V16 F × V16 F × V16 F × V16 F × V16 F × V16 F × V16 F × V16 F × V16 F × V16 F × V16 F → Flat F → Prop :=
  fun (d6, d7, s6, s7, t0, t1, t2, t3, t4, t5, t6, t7) o => Wave W k 6 [d6, d7] [s6, s7] [t0, t1, t2, t3, t4, t5, t6, t7] o

def G17 (W : Flat F) (k : ℕ) : V16 F × V16 F × V16 F × V16 F × V16 F × V16 F × V16 F × V16 F × V16 F × V16 F → Flat F → Prop :=
  fun (d7, s7, t0, t1, t2, t3, t4, t5, t6, t7) o => Wave W k 7 [d7] [s7] [t0, t1, t2, t3, t4, t5, t6, t7] o

variable {d : Dev nD} {L : grid0.Coords} {W : Flat F}
  {arg2 : Memref sig .scVector .hbm S8x32768 .f32} {harg2 : arg2.IsWhole} {arg3 : Memref sig .scVector .hbm S8x32768 .f32} {harg3 : arg3.IsWhole}
  {harg4 : (wM).IsWhole} {harg5 : (oM).IsWhole} {r0 r1 : DmaSems sig S_} {h1 : k0_cond1 L = 1#1}
  {v6 : V16 F} {v8 : IVec S16 1} {v10 v12 v14 v16 v18 v20 v22 v24 v26 v28 v30 v32 v34 v36 v38 v40 : I16}

/-- What the kernel computes before its loops: the border value in every lane, lane zero's mask, and the row
    numbers of the eight groups, as they are and times 255. -/
abbrev Consts (v6 : V16 F) (v8 : IVec S16 1) (v10 v12 v14 v16 v18 v20 v22 v24 v26 v28 v30 v32 v34 v36 v38 v40 : I16) : Prop :=
  IsNeg v6 ∧ IsLane0 v8 ∧ IsRow 0 v10 ∧ IsRow 1 v12 ∧ IsRow 2 v14 ∧ IsRow 3 v16 ∧ IsRow 4 v18 ∧ IsRow 5 v20 ∧ IsRow 6 v22 ∧ IsRow 7 v24 ∧
    IsRow255 0 v26 ∧ IsRow255 1 v28 ∧ IsRow255 2 v30 ∧ IsRow255 3 v32 ∧ IsRow255 4 v34 ∧ IsRow255 5 v36 ∧ IsRow255 6 v38 ∧ IsRow255 7 v40

set_option maxHeartbeats 8000000 in
/-- One trip of each of the loops that let the groups in. -/
theorem grow_steps (hC : Consts v6 v8 v10 v12 v14 v16 v18 v20 v22 v24 v26 v28 v30 v32 v34 (muli v20 (broadcast S16 255#32)) (muli v22 (broadcast S16 255#32)) (muli v24 (broadcast S16 255#32))) :
    (∀ (t : Fin k0_t1_loop.trips) (k : ℕ) acc o, (Scalar.addi 2#32 (Scalar.muli (Scf.iv 0#32 1#32 t) 1#32)).toNat = k → 2 ≤ k → k < 18 →
      G1 W k acc o → Runs d L W o (k0_t1_body L arg2 harg2 arg3 harg3 wM harg4 oM harg5 r0 r1 h1 v6 v8 v10 v12 v14 v16 v18 v20 v22 v24 v26 v28 v30 v32 v34 255#32 t acc) (G1 W (k + 1))) ∧
    (∀ (t : Fin k0_t2_loop.trips) (k : ℕ) acc o, (Scalar.addi 18#32 (Scalar.muli (Scf.iv 0#32 1#32 t) 1#32)).toNat = k → 18 ≤ k → k < 34 →
      G2 W k acc o → Runs d L W o (k0_t2_body L arg2 harg2 arg3 harg3 wM harg4 oM harg5 r0 r1 h1 v6 v8 v10 v12 v14 v16 v18 v20 v22 v24 v26 v28 v30 v32 v34 255#32 t acc) (G2 W (k + 1))) ∧
    (∀ (t : Fin k0_t3_loop.trips) (k : ℕ) acc o, (Scalar.addi 34#32 (Scalar.muli (Scf.iv 0#32 1#32 t) 1#32)).toNat = k → 34 ≤ k → k < 50 →
      G3 W k acc o → Runs d L W o (k0_t3_body L arg2 harg2 arg3 harg3 wM harg4 oM harg5 r0 r1 h1 v6 v8 v10 v12 v14 v16 v18 v20 v22 v24 v26 v28 v30 v32 v34 255#32 t acc) (G3 W (k + 1))) ∧
    (∀ (t : Fin k0_t4_loop.trips) (k : ℕ) acc o, (Scalar.addi 50#32 (Scalar.muli (Scf.iv 0#32 1#32 t) 1#32)).toNat = k → 50 ≤ k → k < 66 →
      G4 W k acc o → Runs d L W o (k0_t4_body L arg2 harg2 arg3 harg3 wM harg4 oM harg5 r0 r1 h1 v6 v8 v10 v12 v14 v16 v18 v20 v22 v24 v26 v28 v30 v32 v34 255#32 t acc) (G4 W (k + 1))) ∧
    (∀ (t : Fin k0_t5_loop.trips) (k : ℕ) acc o, (Scalar.addi 66#32 (Scalar.muli (Scf.iv 0#32 1#32 t) 1#32)).toNat = k → 66 ≤ k → k < 82 →
      G5 W k acc o → Runs d L W o (k0_t5_body L arg2 harg2 arg3 harg3 wM harg4 oM harg5 r0 r1 h1 v6 v8 v10 v12 v14 v16 v18 v20 v22 v24 v26 v28 v30 v32 v34 255#32 t acc) (G5 W (k + 1))) ∧
    (∀ (t : Fin k0_t6_loop.trips) (k : ℕ) acc o, (Scalar.addi 82#32 (Scalar.muli (Scf.iv 0#32 1#32 t) 1#32)).toNat = k → 82 ≤ k → k < 98 →
      G6 W k acc o → Runs d L W o (k0_t6_body L arg2 harg2 arg3 harg3 wM harg4 oM harg5 r0 r1 h1 v6 v8 v10 v12 v14 v16 v18 v20 v22 v24 v26 v28 v30 v32 v34 255#32 t acc) (G6 W (k + 1))) ∧
    (∀ (t : Fin k0_t7_loop.trips) (k : ℕ) acc o, (Scalar.addi 98#32 (Scalar.muli (Scf.iv 0#32 1#32 t) 1#32)).toNat = k → 98 ≤ k → k < 114 →
      G7 W k acc o → Runs d L W o (k0_t7_body L arg2 harg2 arg3 harg3 wM harg4 oM harg5 r0 r1 h1 v6 v8 v10 v12 v14 v16 v18 v20 v22 v24 v26 v28 v30 v32 v34 255#32 t acc) (G7 W (k + 1))) ∧
    (∀ (t : Fin k0_t8_loop.trips) (k : ℕ) acc o, (Scalar.addi 114#32 (Scalar.muli (Scf.iv 0#32 1#32 t) 1#32)).toNat = k → 114 ≤ k → k < 130 →
      G8 W k acc o → Runs d L W o (k0_t8_body L arg2 harg2 arg3 harg3 wM harg4 oM harg5 r0 r1 h1 v6 v8 v10 v12 v14 v16 v18 v20 v22 v24 v26 v28 v30 v32 v34 255#32 t acc) (G8 W (k + 1))) := by
  obtain ⟨hn, h8, hC⟩ := hC
  casesm* _ ∧ _
  refine ⟨?_, ?_, ?_, ?_, ?_, ?_, ?_, ?_⟩
  all_goals
    intro t k acc o hk hlo hhi hG
    obtain ⟨hD, hS, hT, hm⟩ := hG
    simp only [Fam, Nat.reduceAdd] at hD hS hT
    casesm* _ ∧ _, _ × _
    repeat
      refine Runs.assume (chk_of (k := k) ?_ (by omega) (isIdx_of ?_ (by assumption) hk (by omega) (by omega))) ?_
      · decide
      · decide
      refine Runs.loadW (Runs.loadO ?_)
      refine Runs.scatter (k := k) ?_ ?_ (isIdx_of ?_ (by assumption) hk (by omega) (by omega)) ?_ ?_ fun o' hm' _ => ?_
      · first
        | exact hm
        | exact hm.skip (by omega)
      · decide
      · decide
      · first
        | exact isMask_full (by omega) (by omega)
        | exact (isMask_grow (by decide) (by assumption) hk (by omega) (by omega))
      · first
        | exact isV_full (by assumption) (by assumption) (by assumption) (isIdx_of (by decide) (by assumption) hk (by omega) (by omega)) (by omega)
        | exact isV_masked (by assumption) (by assumption) (by assumption) (isIdx_of (by decide) (by assumption) hk (by omega) (by omega)) (isMask_grow (by decide) (by assumption) hk (by omega) (by omega))
      replace hm := hm'
      clear hm'
    apply Runs.ret (F := F)
    refine ⟨?_, ?_, ?_, hm.next (by omega)⟩ <;> repeat' apply And.intro
    all_goals first
      | exact trivial
      | exact IsV.isD (by assumption)
      | exact IsS.isT (by assumption)
      | exact shift_top h8 hn (by assumption) (by omega)
      | exact shift_next h8 (by assumption) (by assumption)
      | exact shift_first h8 (by assumption) (by assumption) (by omega) (by omega)
      | exact idleT hn (by decide) (by omega)

set_option maxHeartbeats 8000000 in
/-- One trip of the loop that moves all groups. -/
theorem full_step {x0 x1 x2 x3 x4 x5 x6 x7 x8 x9 x10 x11 x12 x13 x14 x15 x16 x17 x18 x19 x20 x21 x22 x23 : V16 F} (hC : Consts v6 v8 v10 v12 v14 v16 v18 v20 v22 v24 v26 v28 v30 v32 v34 v36 v38 v40) :
    (∀ (t : Fin k0_t9_loop.trips) (k : ℕ) acc o, (Scalar.addi 130#32 (Scalar.muli (Scf.iv 0#32 1#32 t) 1#32)).toNat = k → 130 ≤ k → k < 258 →
      G9 W k acc o → Runs d L W o (k0_t9_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 t acc) (G9 W (k + 1))) := by
  obtain ⟨hn, h8, hC⟩ := hC
  casesm* _ ∧ _
  all_goals
    intro t k acc o hk hlo hhi hG
    obtain ⟨hD, hS, hT, hm⟩ := hG
    simp only [Fam, Nat.reduceAdd] at hD hS hT
    casesm* _ ∧ _, _ × _
    repeat
      refine Runs.assume (chk_of (k := k) ?_ (by omega) (isIdx_of ?_ (by assumption) hk (by omega) (by omega))) ?_
      · decide
      · decide
      refine Runs.loadW (Runs.loadO ?_)
      refine Runs.scatter (k := k) ?_ ?_ (isIdx_of ?_ (by assumption) hk (by omega) (by omega)) ?_ ?_ fun o' hm' _ => ?_
      · first
        | exact hm
        | exact hm.skip (by omega)
      · decide
      · decide
      · exact isMask_full (by omega) (by omega)
      · exact isV_full (by assumption) (by assumption) (by assumption) (isIdx_of (by decide) (by assumption) hk (by omega) (by omega)) (by omega)
      replace hm := hm'
      clear hm'
    apply Runs.ret (F := F)
    refine ⟨?_, ?_, ?_, hm.next (by omega)⟩ <;> repeat' apply And.intro
    all_goals first
      | exact trivial
      | exact IsV.isD (by assumption)
      | exact IsS.isT (by assumption)
      | exact shift_top h8 hn (by assumption) (by omega)
      | exact shift_next h8 (by assumption) (by assumption)

set_option maxHeartbeats 8000000 in
/-- One trip of each of the loops that let the groups out. -/
theorem shrink_steps {x0 x1 x2 x3 x4 x5 x6 x7 x8 x9 x10 x11 x12 x13 x14 x15 x16 x17 x18 x19 x20 x21 x22 x23 : V16 F} {y0 y1 y2 y3 y4 y5 y6 : V16 F} (hC : Consts v6 v8 v10 v12 v14 v16 v18 v20 v22 v24 v26 v28 v30 v32 v34 v36 v38 v40) :
    (∀ (t : Fin k0_t10_loop.trips) (k : ℕ) acc o, (Scalar.addi 258#32 (Scalar.muli (Scf.iv 0#32 1#32 t) 1#32)).toNat = k → 258 ≤ k → k < 274 →
      G10 W k acc o → Runs d L W o (k0_t10_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 t acc) (G10 W (k + 1))) ∧
    (∀ (t : Fin k0_t11_loop.trips) (k : ℕ) acc o, (Scalar.addi 274#32 (Scalar.muli (Scf.iv 0#32 1#32 t) 1#32)).toNat = k → 274 ≤ k → k < 290 →
      G11 W k acc o → Runs d L W o (k0_t11_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 y0 t acc) (G11 W (k + 1))) ∧
    (∀ (t : Fin k0_t12_loop.trips) (k : ℕ) acc o, (Scalar.addi 290#32 (Scalar.muli (Scf.iv 0#32 1#32 t) 1#32)).toNat = k → 290 ≤ k → k < 306 →
      G12 W k acc o → Runs d L W o (k0_t12_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 y0 y1 t acc) (G12 W (k + 1))) ∧
    (∀ (t : Fin k0_t13_loop.trips) (k : ℕ) acc o, (Scalar.addi 306#32 (Scalar.muli (Scf.iv 0#32 1#32 t) 1#32)).toNat = k → 306 ≤ k → k < 322 →
      G13 W k acc o → Runs d L W o (k0_t13_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 y0 y1 y2 t acc) (G13 W (k + 1))) ∧
    (∀ (t : Fin k0_t14_loop.trips) (k : ℕ) acc o, (Scalar.addi 322#32 (Scalar.muli (Scf.iv 0#32 1#32 t) 1#32)).toNat = k → 322 ≤ k → k < 338 →
      G14 W k acc o → Runs d L W o (k0_t14_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 y0 y1 y2 y3 t acc) (G14 W (k + 1))) ∧
    (∀ (t : Fin k0_t15_loop.trips) (k : ℕ) acc o, (Scalar.addi 338#32 (Scalar.muli (Scf.iv 0#32 1#32 t) 1#32)).toNat = k → 338 ≤ k → k < 354 →
      G15 W k acc o → Runs d L W o (k0_t15_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 y0 y1 y2 y3 y4 t acc) (G15 W (k + 1))) ∧
    (∀ (t : Fin k0_t16_loop.trips) (k : ℕ) acc o, (Scalar.addi 354#32 (Scalar.muli (Scf.iv 0#32 1#32 t) 1#32)).toNat = k → 354 ≤ k → k < 370 →
      G16 W k acc o → Runs d L W o (k0_t16_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 y0 y1 y2 y3 y4 y5 t acc) (G16 W (k + 1))) ∧
    (∀ (t : Fin k0_t17_loop.trips) (k : ℕ) acc o, (Scalar.addi 370#32 (Scalar.muli (Scf.iv 0#32 1#32 t) 1#32)).toNat = k → 370 ≤ k → k < 385 →
      G17 W k acc o → Runs d L W o (k0_t17_body L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23 y0 y1 y2 y3 y4 y5 y6 t acc) (G17 W (k + 1))) := by
  obtain ⟨hn, h8, hC⟩ := hC
  casesm* _ ∧ _
  refine ⟨?_, ?_, ?_, ?_, ?_, ?_, ?_, ?_⟩
  all_goals
    intro t k acc o hk hlo hhi hG
    obtain ⟨hD, hS, hT, hm⟩ := hG
    simp only [Fam, Nat.reduceAdd] at hD hS hT
    casesm* _ ∧ _, _ × _
    repeat
      refine Runs.assume (chk_of (k := k) ?_ (by omega) (isIdx_of ?_ (by assumption) hk (by omega) (by omega))) ?_
      · decide
      · decide
      refine Runs.loadW (Runs.loadO ?_)
      refine Runs.scatter (k := k) ?_ ?_ (isIdx_of ?_ (by assumption) hk (by omega) (by omega)) ?_ ?_ fun o' hm' _ => ?_
      · first
        | exact hm
        | exact hm.skip (by omega)
      · decide
      · decide
      · first
        | exact isMask_full (by omega) (by omega)
        | exact (isMask_shrink (by decide) (by assumption) hk (by omega) (by omega) (by omega))
      · first
        | exact isV_full (by assumption) (by assumption) (by assumption) (isIdx_of (by decide) (by assumption) hk (by omega) (by omega)) (by omega)
        | exact isV_masked (by assumption) (by assumption) (by assumption) (isIdx_of (by decide) (by assumption) hk (by omega) (by omega)) (isMask_shrink (by decide) (by assumption) hk (by omega) (by omega) (by omega))
      replace hm := hm'
      clear hm'
    apply Runs.ret (F := F)
    refine ⟨?_, ?_, ?_, hm.next (by omega)⟩ <;> repeat' apply And.intro
    all_goals first
      | exact trivial
      | exact IsV.isD (by assumption)
      | exact IsS.isT (by assumption)
      | exact shift_past h8 (by assumption) (by omega)
      | exact shift_next h8 (by assumption) (by assumption)
      | exact pastT (by omega)

end Cert.Proof.Steps
-- ==== Proof.Loops.lean ====
/-
  The kernel's seventeen loops in a row, between its two copies: from the border values to the whole table.
-/
module

public import proofs.«01_k».proof.Proof.Steps

@[expose] public section

noncomputable section

namespace Cert.Proof.Loops

open Cert.KernelIdeal Cert.KernelIdeal.Gen Cert.Proof.Table Cert.Proof.Run Cert.Proof.Steps
open Idealize.ShloMosaic Idealize.SL.Sem

variable {F : FTy → Type} [FloatOps F]

variable {d : Dev nD} {L : grid0.Coords} {W o : Flat F}
  {arg2 : Memref sig .scVector .hbm S8x32768 .f32} {harg2 : arg2.IsWhole} {arg3 : Memref sig .scVector .hbm S8x32768 .f32} {harg3 : arg3.IsWhole}
  {harg4 : (wM).IsWhole} {harg5 : (oM).IsWhole} {r0 r1 : DmaSems sig S_} {h1 : k0_cond1 L = 1#1}
  {v6 : V16 F} {v8 : IVec S16 1} {v10 v12 v14 v16 v18 v20 v22 v24 v26 v28 v30 v32 v34 v36 v38 v40 : I16}

/-- A loop over the steps `b ≤ k < b + n` at the head of a program, by what holds before each step. -/
theorem loop_then {σ α : Type} {l : Scf.Loop 32} {hok : l.OK} {init : σ} {body : Fin l.trips → σ → TProg F L σ} {kk : σ → TProg F L α}
    {Q : α → Flat F → Prop} (G : ℕ → σ → Flat F → Prop) (b n : ℕ) (hn : l.trips = n) (hb4 : b + n < 400) (h0 : G b init o)
    (hb : ∀ (t : Fin l.trips) (k : ℕ) acc o, (Scalar.addi (BitVec.ofNat 32 b) (Scalar.muli (Scf.iv 0#32 1#32 t) 1#32)).toNat = k → b ≤ k → k < b + n →
      G k acc o → Runs d L W o (body t acc) (G (k + 1)))
    (hk : ∀ acc o, G (b + n) acc o → Runs d L W o (kk acc) Q) : Runs d L W o (Scf.Loop.for l hok init body >>= kk) Q := by
  refine Runs.bind (Runs.loop l hok init body (fun t acc o => G (b + t) acc o) h0 fun t acc o' h => ?_) fun acc o' h => hk acc o' (by rwa [← hn])
  have ht : t.val < n := hn ▸ t.isLt
  exact hb t (b + t.val) acc o' (step_num b t.val (by omega) (by omega)) (by omega) (by omega) h

/-- The vector the corner enters by: it in lane zero, the border value elsewhere. -/
theorem corner (h8 : IsLane0 v8) : IsT W 0 2 (k0_pay361 (F := F) v8) := by
  unfold IsT
  unfold IsLane0 at h8
  intro l _
  show (if v8 l = 1#1 then (zeroV : F .f32) else negV) = _
  split
  · next h => rw [show row 0 l - 1 = 0 by have := (h8 l).1 h; unfold row; omega, dg_corner]
  · next h =>
    have h0 : ¬ (l 0).val = 0 := fun e => h ((h8 l).2 e)
    have : 1 ≤ row 0 l - 1 := by unfold row; omega
    rw [dg_border W (by omega) this]

/-- The vectors at the first step, and those of a new group as it is let in. -/
theorem enter (hn : IsNeg v6) (h8 : IsLane0 v8) :
    G1 W 2 (v6, v6, v6, k0_pay361 (F := F) v8, v6, v6, v6, v6, v6, v6, v6) o ∧
    (∀ d0 s0 s1 t0 t1 t2 t3 t4 t5 t6 t7 o, G1 W 18 (d0, s0, s1, t0, t1, t2, t3, t4, t5, t6, t7) o → G2 W 18 (d0, v6, s0, s1, v6, t0, t1, t2, t3, t4, t5, t6, t7) o) ∧
    (∀ d0 d1 s0 s1 s2 t0 t1 t2 t3 t4 t5 t6 t7 o, G2 W 34 (d0, d1, s0, s1, s2, t0, t1, t2, t3, t4, t5, t6, t7) o → G3 W 34 (d0, d1, v6, s0, s1, s2, v6, t0, t1, t2, t3, t4, t5, t6, t7) o) ∧
    (∀ d0 d1 d2 s0 s1 s2 s3 t0 t1 t2 t3 t4 t5 t6 t7 o, G3 W 50 (d0, d1, d2, s0, s1, s2, s3, t0, t1, t2, t3, t4, t5, t6, t7) o → G4 W 50 (d0, d1, d2, v6, s0, s1, s2, s3, v6, t0, t1, t2, t3, t4, t5, t6, t7) o) ∧
    (∀ d0 d1 d2 d3 s0 s1 s2 s3 s4 t0 t1 t2 t3 t4 t5 t6 t7 o, G4 W 66 (d0, d1, d2, d3, s0, s1, s2, s3, s4, t0, t1, t2, t3, t4, t5, t6, t7) o → G5 W 66 (d0, d1, d2, d3, v6, s0, s1, s2, s3, s4, v6, t0, t1, t2, t3, t4, t5, t6, t7) o) ∧
    (∀ d0 d1 d2 d3 d4 s0 s1 s2 s3 s4 s5 t0 t1 t2 t3 t4 t5 t6 t7 o, G5 W 82 (d0, d1, d2, d3, d4, s0, s1, s2, s3, s4, s5, t0, t1, t2, t3, t4, t5, t6, t7) o → G6 W 82 (d0, d1, d2, d3, d4, v6, s0, s1, s2, s3, s4, s5, v6, t0, t1, t2, t3, t4, t5, t6, t7) o) ∧
    (∀ d0 d1 d2 d3 d4 d5 s0 s1 s2 s3 s4 s5 s6 t0 t1 t2 t3 t4 t5 t6 t7 o, G6 W 98 (d0, d1, d2, d3, d4, d5, s0, s1, s2, s3, s4, s5, s6, t0, t1, t2, t3, t4, t5, t6, t7) o → G7 W 98 (d0, d1, d2, d3, d4, d5, v6, s0, s1, s2, s3, s4, s5, s6, v6, t0, t1, t2, t3, t4, t5, t6, t7) o) ∧
    (∀ d0 d1 d2 d3 d4 d5 d6 s0 s1 s2 s3 s4 s5 s6 s7 t0 t1 t2 t3 t4 t5 t6 t7 o, G7 W 114 (d0, d1, d2, d3, d4, d5, d6, s0, s1, s2, s3, s4, s5, s6, s7, t0, t1, t2, t3, t4, t5, t6, t7) o → G8 W 114 (d0, d1, d2, d3, d4, d5, d6, v6, s0, s1, s2, s3, s4, s5, s6, s7, t0, t1, t2, t3, t4, t5, t6, t7) o) ∧
    (∀ d0 d1 d2 d3 d4 d5 d6 d7 s0 s1 s2 s3 s4 s5 s6 s7 t0 t1 t2 t3 t4 t5 t6 t7 o, G8 W 130 (d0, d1, d2, d3, d4, d5, d6, d7, s0, s1, s2, s3, s4, s5, s6, s7, t0, t1, t2, t3, t4, t5, t6, t7) o → G9 W 130 (d0, d1, d2, d3, d4, d5, d6, d7, s0, s1, s2, s3, s4, s5, s6, s7, t0, t1, t2, t3, t4, t5, t6, t7) o) := by
  refine ⟨?_, ?_, ?_, ?_, ?_, ?_, ?_, ?_, ?_⟩
  · refine ⟨?_, ?_, ?_, Done.start⟩ <;> repeat' apply And.intro
    all_goals first
      | exact trivial
      | exact corner h8
      | exact idleD hn (by decide)
      | exact idleS hn (by decide) (by decide)
      | exact idleT hn (by decide) (by decide)
  all_goals
    intros
    rename_i hG
    obtain ⟨hD, hS, hT, hm⟩ := hG
    simp only [Fam, Nat.reduceAdd] at hD hS hT
    casesm* _ ∧ _
    refine ⟨?_, ?_, ?_, hm⟩ <;> repeat' apply And.intro
    all_goals first
      | assumption
      | exact trivial
      | exact idleD hn (by decide)
      | exact idleS hn (by decide) (by decide)

/-- The vectors left as a group is let out. -/
theorem leave :
    (∀ d0 d1 d2 d3 d4 d5 d6 d7 s0 s1 s2 s3 s4 s5 s6 s7 t0 t1 t2 t3 t4 t5 t6 t7 o, G9 W 258 (d0, d1, d2, d3, d4, d5, d6, d7, s0, s1, s2, s3, s4, s5, s6, s7, t0, t1, t2, t3, t4, t5, t6, t7) o → G10 W 258 (d0, d1, d2, d3, d4, d5, d6, d7, s0, s1, s2, s3, s4, s5, s6, s7, t0, t1, t2, t3, t4, t5, t6, t7) o) ∧
    (∀ d0 d1 d2 d3 d4 d5 d6 d7 s0 s1 s2 s3 s4 s5 s6 s7 t0 t1 t2 t3 t4 t5 t6 t7 o, G10 W 274 (d0, d1, d2, d3, d4, d5, d6, d7, s0, s1, s2, s3, s4, s5, s6, s7, t0, t1, t2, t3, t4, t5, t6, t7) o → G11 W 274 (d1, d2, d3, d4, d5, d6, d7, s1, s2, s3, s4, s5, s6, s7, t0, t1, t2, t3, t4, t5, t6, t7) o) ∧
    (∀ d1 d2 d3 d4 d5 d6 d7 s1 s2 s3 s4 s5 s6 s7 t0 t1 t2 t3 t4 t5 t6 t7 o, G11 W 290 (d1, d2, d3, d4, d5, d6, d7, s1, s2, s3, s4, s5, s6, s7, t0, t1, t2, t3, t4, t5, t6, t7) o → G12 W 290 (d2, d3, d4, d5, d6, d7, s2, s3, s4, s5, s6, s7, t0, t1, t2, t3, t4, t5, t6, t7) o) ∧
    (∀ d2 d3 d4 d5 d6 d7 s2 s3 s4 s5 s6 s7 t0 t1 t2 t3 t4 t5 t6 t7 o, G12 W 306 (d2, d3, d4, d5, d6, d7, s2, s3, s4, s5, s6, s7, t0, t1, t2, t3, t4, t5, t6, t7) o → G13 W 306 (d3, d4, d5, d6, d7, s3, s4, s5, s6, s7, t0, t1, t2, t3, t4, t5, t6, t7) o) ∧
    (∀ d3 d4 d5 d6 d7 s3 s4 s5 s6 s7 t0 t1 t2 t3 t4 t5 t6 t7 o, G13 W 322 (d3, d4, d5, d6, d7, s3, s4, s5, s6, s7, t0, t1, t2, t3, t4, t5, t6, t7) o → G14 W 322 (d4, d5, d6, d7, s4, s5, s6, s7, t0, t1, t2, t3, t4, t5, t6, t7) o) ∧
    (∀ d4 d5 d6 d7 s4 s5 s6 s7 t0 t1 t2 t3 t4 t5 t6 t7 o, G14 W 338 (d4, d5, d6, d7, s4, s5, s6, s7, t0, t1, t2, t3, t4, t5, t6, t7) o → G15 W 338 (d5, d6, d7, s5, s6, s7, t0, t1, t2, t3, t4, t5, t6, t7) o) ∧
    (∀ d5 d6 d7 s5 s6 s7 t0 t1 t2 t3 t4 t5 t6 t7 o, G15 W 354 (d5, d6, d7, s5, s6, s7, t0, t1, t2, t3, t4, t5, t6, t7) o → G16 W 354 (d6, d7, s6, s7, t0, t1, t2, t3, t4, t5, t6, t7) o) ∧
    (∀ d6 d7 s6 s7 t0 t1 t2 t3 t4 t5 t6 t7 o, G16 W 370 (d6, d7, s6, s7, t0, t1, t2, t3, t4, t5, t6, t7) o → G17 W 370 (d7, s7, t0, t1, t2, t3, t4, t5, t6, t7) o) := by
  refine ⟨?_, ?_, ?_, ?_, ?_, ?_, ?_, ?_⟩
  all_goals
    intros
    rename_i hG
    obtain ⟨hD, hS, hT, hm⟩ := hG
    simp only [Fam, Nat.reduceAdd] at hD hS hT
    casesm* _ ∧ _
    refine ⟨?_, ?_, ?_, hm⟩ <;> repeat' apply And.intro
    all_goals first
      | assumption
      | exact trivial

/-- The loops that let the groups in: the row numbers of the last three groups times 255, and the wavefront at step 130. -/
theorem part49_runs (hC : Consts v6 v8 v10 v12 v14 v16 v18 v20 v22 v24 v26 v28 v30 v32 v34 (muli v20 (broadcast S16 255#32)) (muli v22 (broadcast S16 255#32)) (muli v24 (broadcast S16 255#32))) :
    Runs d L W o (k0_part49 L arg2 harg2 arg3 harg3 wM harg4 oM harg5 r0 r1 h1 v6 v8 v10 v12 v14 v16 v18 v20 v22 v24 v26 v28 v30 v32 v34 255#32)
      fun ⟨y5, y6, y7, x0, x1, x2, x3, x4, x5, x6, x7, x8, x9, x10, x11, x12, x13, x14, x15, x16, x17, x18, x19, x20, x21, x22, x23⟩ o => y5 = muli v20 (broadcast S16 255#32) ∧ y6 = muli v22 (broadcast S16 255#32) ∧
        y7 = muli v24 (broadcast S16 255#32) ∧ G9 W 130 (x0, x1, x2, x3, x4, x5, x6, x7, x8, x9, x10, x11, x12, x13, x14, x15, x16, x17, x18, x19, x20, x21, x22, x23) o := by
  have hE := enter (W := W) (o := o) hC.1 hC.2.1
  obtain ⟨g1, g2, g3, g4, g5, g6, g7, g8⟩ := grow_steps (d := d) (L := L) (W := W) (harg2 := harg2) (harg3 := harg3) (harg4 := harg4) (harg5 := harg5)
    (r0 := r0) (r1 := r1) (h1 := h1) hC
  obtain ⟨e1, e2, e3, e4, e5, e6, e7, e8, e9⟩ := hE
  rw [k0_part49_eq_skeleton]
  unfold k0_part49_skel
  refine loop_then (G1 W) 2 16 rfl (by decide) e1 g1 ?_
  rintro ⟨d0, s0, s1, t0, t1, t2, t3, t4, t5, t6, t7⟩ o h
  refine loop_then (G2 W) 18 16 rfl (by decide) (e2 _ _ _ _ _ _ _ _ _ _ _ _ h) g2 ?_
  rintro ⟨d0, d1, s0, s1, s2, t0, t1, t2, t3, t4, t5, t6, t7⟩ o h
  refine loop_then (G3 W) 34 16 rfl (by decide) (e3 _ _ _ _ _ _ _ _ _ _ _ _ _ _ h) g3 ?_
  rintro ⟨d0, d1, d2, s0, s1, s2, s3, t0, t1, t2, t3, t4, t5, t6, t7⟩ o h
  refine loop_then (G4 W) 50 16 rfl (by decide) (e4 _ _ _ _ _ _ _ _ _ _ _ _ _ _ _ _ h) g4 ?_
  rintro ⟨d0, d1, d2, d3, s0, s1, s2, s3, s4, t0, t1, t2, t3, t4, t5, t6, t7⟩ o h
  refine loop_then (G5 W) 66 16 rfl (by decide) (e5 _ _ _ _ _ _ _ _ _ _ _ _ _ _ _ _ _ _ h) g5 ?_
  rintro ⟨d0, d1, d2, d3, d4, s0, s1, s2, s3, s4, s5, t0, t1, t2, t3, t4, t5, t6, t7⟩ o h
  refine loop_then (G6 W) 82 16 rfl (by decide) (e6 _ _ _ _ _ _ _ _ _ _ _ _ _ _ _ _ _ _ _ _ h) g6 ?_
  rintro ⟨d0, d1, d2, d3, d4, d5, s0, s1, s2, s3, s4, s5, s6, t0, t1, t2, t3, t4, t5, t6, t7⟩ o h
  refine loop_then (G7 W) 98 16 rfl (by decide) (e7 _ _ _ _ _ _ _ _ _ _ _ _ _ _ _ _ _ _ _ _ _ _ h) g7 ?_
  rintro ⟨d0, d1, d2, d3, d4, d5, d6, s0, s1, s2, s3, s4, s5, s6, s7, t0, t1, t2, t3, t4, t5, t6, t7⟩ o h
  refine loop_then (G8 W) 114 16 rfl (by decide) (e8 _ _ _ _ _ _ _ _ _ _ _ _ _ _ _ _ _ _ _ _ _ _ _ _ h) g8 ?_
  rintro ⟨d0, d1, d2, d3, d4, d5, d6, d7, s0, s1, s2, s3, s4, s5, s6, s7, t0, t1, t2, t3, t4, t5, t6, t7⟩ o h
  exact Runs.ret ⟨rfl, rfl, rfl, e9 _ _ _ _ _ _ _ _ _ _ _ _ _ _ _ _ _ _ _ _ _ _ _ _ _ h⟩

/-- The loops that move all groups and let them out: from the wavefront at step 130, the whole table. -/
theorem part50_runs {x0 x1 x2 x3 x4 x5 x6 x7 x8 x9 x10 x11 x12 x13 x14 x15 x16 x17 x18 x19 x20 x21 x22 x23 : V16 F} (hC : Consts v6 v8 v10 v12 v14 v16 v18 v20 v22 v24 v26 v28 v30 v32 v34 v36 v38 v40) (h : G9 W 130 (x0, x1, x2, x3, x4, x5, x6, x7, x8, x9, x10, x11, x12, x13, x14, x15, x16, x17, x18, x19, x20, x21, x22, x23) o) :
    Runs d L W o (k0_part50 L arg2 harg2 arg3 harg3 wM harg4 oM harg5 r0 r1 h1 v6 v8 v10 v12 v14 v16 v18 v20 v22 v24 v26 v28 v30 v32 v34 v36 v38 v40 x0 x1 x2 x3 x4 x5 x6 x7 x8 x9 x10 x11 x12 x13 x14 x15 x16 x17 x18 x19 x20 x21 x22 x23) fun _ o => Done W 385 0 o := by
  rw [k0_part50_eq_skeleton]
  unfold k0_part50_skel
  obtain ⟨l9, l10, l11, l12, l13, l14, l15, l16⟩ := leave (W := W)
  refine loop_then (G9 W) 130 128 rfl (by decide) h (full_step hC) ?_
  rintro ⟨d0, d1, d2, d3, d4, d5, d6, d7, s0, s1, s2, s3, s4, s5, s6, s7, t0, t1, t2, t3, t4, t5, t6, t7⟩ o h
  refine loop_then (G10 W) 258 16 rfl (by decide) (l9 _ _ _ _ _ _ _ _ _ _ _ _ _ _ _ _ _ _ _ _ _ _ _ _ _ h) (shrink_steps (y0 := v6) (y1 := v6) (y2 := v6) (y3 := v6) (y4 := v6) (y5 := v6) (y6 := v6) hC).1 ?_
  rintro ⟨d0, d1, d2, d3, d4, d5, d6, d7, s0, s1, s2, s3, s4, s5, s6, s7, t0, t1, t2, t3, t4, t5, t6, t7⟩ o h
  refine loop_then (G11 W) 274 16 rfl (by decide) (l10 _ _ _ _ _ _ _ _ _ _ _ _ _ _ _ _ _ _ _ _ _ _ _ _ _ h) (shrink_steps (y1 := v6) (y2 := v6) (y3 := v6) (y4 := v6) (y5 := v6) (y6 := v6) hC).2.1 ?_
  rintro ⟨d1, d2, d3, d4, d5, d6, d7, s1, s2, s3, s4, s5, s6, s7, t0, t1, t2, t3, t4, t5, t6, t7⟩ o h
  refine loop_then (G12 W) 290 16 rfl (by decide) (l11 _ _ _ _ _ _ _ _ _ _ _ _ _ _ _ _ _ _ _ _ _ _ _ h) (shrink_steps (y2 := v6) (y3 := v6) (y4 := v6) (y5 := v6) (y6 := v6) hC).2.2.1 ?_
  rintro ⟨d2, d3, d4, d5, d6, d7, s2, s3, s4, s5, s6, s7, t0, t1, t2, t3, t4, t5, t6, t7⟩ o h
  refine loop_then (G13 W) 306 16 rfl (by decide) (l12 _ _ _ _ _ _ _ _ _ _ _ _ _ _ _ _ _ _ _ _ _ h) (shrink_steps (y3 := v6) (y4 := v6) (y5 := v6) (y6 := v6) hC).2.2.2.1 ?_
  rintro ⟨d3, d4, d5, d6, d7, s3, s4, s5, s6, s7, t0, t1, t2, t3, t4, t5, t6, t7⟩ o h
  refine loop_then (G14 W) 322 16 rfl (by decide) (l13 _ _ _ _ _ _ _ _ _ _ _ _ _ _ _ _ _ _ _ h) (shrink_steps (y4 := v6) (y5 := v6) (y6 := v6) hC).2.2.2.2.1 ?_
  rintro ⟨d4, d5, d6, d7, s4, s5, s6, s7, t0, t1, t2, t3, t4, t5, t6, t7⟩ o h
  refine loop_then (G15 W) 338 16 rfl (by decide) (l14 _ _ _ _ _ _ _ _ _ _ _ _ _ _ _ _ _ h) (shrink_steps (y5 := v6) (y6 := v6) hC).2.2.2.2.2.1 ?_
  rintro ⟨d5, d6, d7, s5, s6, s7, t0, t1, t2, t3, t4, t5, t6, t7⟩ o h
  refine loop_then (G16 W) 354 16 rfl (by decide) (l15 _ _ _ _ _ _ _ _ _ _ _ _ _ _ _ h) (shrink_steps (y6 := v6) hC).2.2.2.2.2.2.1 ?_
  rintro ⟨d6, d7, s6, s7, t0, t1, t2, t3, t4, t5, t6, t7⟩ o h
  refine loop_then (G17 W) 370 15 rfl (by decide) (l16 _ _ _ _ _ _ _ _ _ _ _ _ _ h) (shrink_steps hC).2.2.2.2.2.2.2 ?_
  rintro ⟨d7, s7, t0, t1, t2, t3, t4, t5, t6, t7⟩ o h
  exact Runs.ret h.2.2.2

end Cert.Proof.Loops
-- ==== Proof.Tile.lean ====
/-
  A tile's body: it copies its batch's costs in, builds the table (Loops.lean) and copies the table out. Tiles from the
  eighth on do nothing.
-/
module

public import proofs.«01_k».proof.Proof.Loops
public import Idealize.ShloMosaic.Lib.Pointwise.Index

@[expose] public section

noncomputable section

namespace Cert.Proof.Tile

open Cert.KernelIdeal Cert.KernelIdeal.Gen Cert.Proof.Table Cert.Proof.Run Cert.Proof.Steps Cert.Proof.Loops

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Batches as rows -/

/-- Row `s` of a flat batch of matrices. -/
def rowOf (A : S8x32768.Idx → F .f32) (s : Fin 8) : Flat F := fun q => A (ix2 s (q 0))

/-- The batch of tables of a flat batch of costs. -/
def tableOf (A : S8x32768.Idx → F .f32) : S8x32768.Idx → F .f32 := fun p =>
  mu (rowOf A (p 0)) ((p 1).val / 256 + 1) ((p 1).val % 256 + 1)

abbrev xV : Memref sig .scVector .hbm S8x32768 .f32 := Memref.whole main_v0_scv
abbrev yV : Memref sig .scVector .hbm S8x32768 .f32 := Memref.whole main_v1_scv
abbrev xLoc (d : Dev nD) : Loc nD τ sig := (SparseCore.T d).loc main_v0
abbrev yLoc (d : Dev nD) : Loc nD τ sig := (SparseCore.T d).loc main_v1

theorem hdiv : 8 ∣ S8x32768.size 0 := ⟨1, rfl⟩
abbrev rowR (s : Fin 8) : Rect S8x32768 := Rect.part (s := S8x32768) (a₀ := 0) hdiv s
abbrev rowSet (s : Fin 8) : Finset S8x32768.Idx := (rowR s).set

theorem low_of_cond : ∀ L : grid0.Coords, k0_cond1 L = 1#1 → (L 1).val < 8 := by decide +kernel
theorem cond_of_low : ∀ L : grid0.Coords, (L 1).val < 8 → k0_cond1 L = 1#1 := by decide +kernel

section Row

variable (d : Dev nD) (L : grid0.Coords) (h1 : k0_cond1 L = 1#1)

/-- The batch of a tile that works. -/
abbrev bat : Fin 8 := ⟨(L 1).val, low_of_cond L h1⟩

abbrev rowK : Rect S8x32768 := Rect.unit (s := S8x32768) (k0_off1 L) S1x32768.size (k0_off1_inb L h1)
abbrev xRow : Memref sig .scVector .hbm S32768 .f32 := (xV.slice (rowK L h1) (fun _ => rfl)).squeeze S32768 squeezes_S1x32768_S32768
abbrev yRow : Memref sig .scVector .hbm S32768 .f32 := (yV.slice (rowK L h1) (fun _ => rfl)).squeeze S32768 squeezes_S1x32768_S32768

theorem rowK_eq : rowK L h1 = rowR (bat L h1) := by
  unfold rowK rowR Rect.part Rect.block
  congr 1 <;> funext a
  · rw [k0_off1_eq]
    match a with
    | 0 => simp [Shape.partIx, Shape.partSize]
    | 1 => simp [Shape.partIx, Shape.partSize]
  · match a with
    | 0 => simp [Shape.partSize]
    | 1 => simp [Shape.partSize]

theorem set_xRow : (xRow L h1).view.set = rowSet (bat L h1) := by
  show ((xV.view.slice (rowK L h1)).reshape S32768 squeezes_S1x32768_S32768.numel_eq).set = _
  rw [View.set_reshape, View.set_slice]
  exact Finset.map_refl.trans (congrArg (fun r : Rect S8x32768 => r.set) (rowK_eq L h1))

theorem set_yRow : (yRow L h1).view.set = rowSet (bat L h1) := by
  show ((yV.view.slice (rowK L h1)).reshape S32768 squeezes_S1x32768_S32768.numel_eq).set = _
  rw [View.set_reshape, View.set_slice]
  exact Finset.map_refl.trans (congrArg (fun r : Rect S8x32768 => r.set) (rowK_eq L h1))

theorem pts_xRow (f : Buf (Elt F) (xLoc d)) :
    ((xRow L h1).view.loc (thr d L) ↦[(xRow L h1).view.set]{fullShare} f : sProp 𝕄) = xLoc d ↦[rowSet (bat L h1)]{fullShare} f := by
  rw [set_xRow]
theorem pts_yRow (f : Buf (Elt F) (yLoc d)) :
    ((yRow L h1).view.loc (thr d L) ↦[(yRow L h1).view.set]{fullShare} f : sProp 𝕄) = yLoc d ↦[rowSet (bat L h1)]{fullShare} f := by
  rw [set_yRow]

theorem pts_w (f : Flat F) : (wM.view.loc (thr d L) ↦[wM.view.set]{fullShare} (f : Buf (Elt F) (wM.view.loc (thr d L))) : sProp 𝕄) = wPts d L f := by
  simp only [Memref.view_whole, View.set_whole]
theorem pts_o (f : Flat F) : (oM.view.loc (thr d L) ↦[oM.view.set]{fullShare} (f : Buf (Elt F) (oM.view.loc (thr d L))) : sProp 𝕄) = oPts d L f := by
  simp only [Memref.view_whole, View.set_whole]

theorem row_place (q : S32768.Idx) : (rowK L h1).emb (Shape.reshapeEquiv squeezes_S1x32768_S32768.numel_eq q) = ix2 (bat L h1) (q 0) := by
  have e : Shape.reshapeEquiv squeezes_S1x32768_S32768.numel_eq q = (Fin.cons ⟨0, Nat.one_pos⟩ q : S1x32768.Idx) :=
    Shape.reshapeEquiv_cons_one (d := ![32768]) _ q
  rw [e]
  funext a
  match a with
  | 0 => apply Fin.ext; show k0_off1 L 0 + 1 * 0 = _; rw [k0_off1_eq]; rfl
  | 1 => apply Fin.ext; show k0_off1 L 1 + 1 * (q 0).val = _; rw [k0_off1_eq]; show 0 + 1 * (q 0).val = (q 0).val; omega

theorem emb_xRow (q : S32768.Idx) : (xRow L h1).view.emb q = ix2 (bat L h1) (q 0) := row_place L h1 q
theorem emb_yRow (q : S32768.Idx) : (yRow L h1).view.emb q = ix2 (bat L h1) (q 0) := row_place L h1 q

theorem read_xRow (A : S8x32768.Idx → F .f32) : (xRow L h1).view.read (Elt F) A = rowOf A (bat L h1) := by
  funext q
  show A ((xRow L h1).view.emb q) = _
  rw [emb_xRow]; rfl

/-- The copy out leaves the batch's row of the tables. -/
theorem write_yRow (A g : S8x32768.Idx → F .f32) (o : Flat F) (h : Done (rowOf A (bat L h1)) 385 0 o) :
    ∀ p ∈ rowSet (bat L h1), (yRow L h1).view.writes (Elt F) g [⟨Rect.whole S32768, o⟩] p = tableOf A p := by
  intro p hp
  rw [← set_yRow] at hp
  obtain ⟨q, -, rfl⟩ := Finset.mem_map.mp hp
  have e : (yRow L h1).view.emb q = ((yRow L h1).view.slice (Rect.whole S32768)).emb q := congrArg (yRow L h1).view.emb (by
    funext a; apply Fin.ext; show (q a).val = 0 + 1 * (q a).val; omega)
  rw [e]
  refine (View.write_emb_of_mem (v := (yRow L h1).view.slice (Rect.whole S32768)) (Val := Elt F) g o (M := Finset.univ) (x := q) (Finset.mem_univ q)).trans ?_
  rw [← e, emb_yRow]
  show o q = tableOf A (ix2 (bat L h1) (q 0))
  have hq : (q 0).val < 32768 := (q 0).isLt
  unfold Done at h
  have e := h ((q 0).val / 256) ((q 0).val % 256) (by omega) (Nat.mod_lt _ (by decide)) (by omega)
  rw [← place_eq (p := q) (by omega)] at e
  exact e

theorem wrote (A g : S8x32768.Idx → F .f32) (o : Flat F) (h : Done (rowOf A (bat L h1)) 385 0 o) :
    ((yRow L h1).view.loc (thr d L) ↦[(yRow L h1).view.set]{fullShare} (yRow L h1).view.writes (Elt F) g [⟨Rect.whole S32768, o⟩] : sProp 𝕄)
      = yLoc d ↦[rowSet (bat L h1)]{fullShare} (tableOf A : Buf (Elt F) (yLoc d)) :=
  (pts_yRow d L h1 _).trans (pointsTo_congr (write_yRow L h1 A g o h))

end Row

/-! ## What the kernel computes before its loops -/

theorem consts : Consts (F := F) k0_pay343 k0_pay344 k0_pay345 k0_pay346 k0_pay347 k0_pay348 k0_pay349 k0_pay350 k0_pay351 k0_pay352
    k0_pay353 k0_pay354 k0_pay355 k0_pay356 k0_pay357 (muli k0_pay350 (broadcast S16 255#32)) (muli k0_pay351 (broadcast S16 255#32)) (muli k0_pay352 (broadcast S16 255#32)) := by
  unfold Consts IsNeg IsLane0 IsRow IsRow255
  refine ⟨fun _ => rfl, ?_⟩
  have lanes : ∀ p : S16.Idx → Prop, (∀ n : Fin 16, p (lane n)) → ∀ l, p l := fun p h l => lane_eq l ▸ h (l 0)
  refine ⟨?_, ?_, ?_, ?_, ?_, ?_, ?_, ?_, ?_, ?_, ?_, ?_, ?_, ?_, ?_, ?_, ?_⟩ <;> (refine lanes _ ?_; decide +kernel)

/-! ## The copy in -/

section Copies

variable (d : Dev nD) (L : grid0.Coords) (h1 : k0_cond1 L = 1#1)

abbrev cell0 : GSem nD τ sig := (thr d L, .dma cc0_scoped0.sem)
abbrev cell1 : GSem nD τ sig := (thr d L, .dma cc0_scoped1.sem)

theorem part48_runs (A : Buf (Elt F) (xLoc d)) (w0 : Flat F) (O : CellTallies nD τ sig (HIx 1)) (W : Waits sig (HIx 1)) :
    iprop(Transfers.MayWaits (thr d L) (none : HIx 1) O ∗ (xLoc d ↦[rowSet (bat L h1)]{fullShare} A) ∗ wPts d L w0 ∗ semVal (cell0 d L) 0 ∗ owes (thr d L) O W)
      ⊢ wpT d L (k0_part48 L xV (Memref.isWhole_whole _) yV (Memref.isWhole_whole _) wM (Memref.isWhole_whole _) oM (Memref.isWhole_whole _) cc0_scoped0 cc0_scoped1 h1)
          fun r => iprop(⌜r = ⟨k0_pay343 (F := F), k0_pay344, k0_pay345, k0_pay346, k0_pay347, k0_pay348, k0_pay349, k0_pay350, k0_pay351, k0_pay352, k0_pay353, k0_pay354, k0_pay355, k0_pay356, k0_pay357, 255#32⟩⌝ ∗ (xLoc d ↦[rowSet (bat L h1)]{fullShare} A) ∗ wPts d L (rowOf A (bat L h1)) ∗ semVal (cell0 d L) 0
            ∗ ∃ W', ⌜∀ p ∈ W', p ∈ W ∨ p.2 = none⌝ ∗ owes (thr d L) O W') := by
  rw [k0_part48_eq_skeleton]
  unfold k0_part48_skel wpT
  iintro ⟨Hmw, Hx, Hw, Hs, HO⟩
  ihave Hx' := (Entails.of_eq (pts_xRow (F := F) d L h1 _).symm) $$ Hx
  ihave Hw' := (Entails.of_eq (pts_w (F := F) d L _).symm) $$ Hw
  sl_exec
  sl_step
  have e : wM.view.writes (Elt F) w0 [⟨Rect.whole S32768, part48_runs.sl.dma0 d L h1 A⟩] = rowOf A (bat L h1) := by
    refine (Memref.write_access_whole_univ (Elt F) cc0_scratch0 _ _).trans ?_
    exact read_xRow L h1 A
  isplitr
  · ipureintro; rfl
  isplitl [Hx']
  · iapply (Entails.of_eq (pts_xRow (F := F) d L h1 _)); iexact Hx'
  isplitl [Hw']
  · iapply (Entails.of_eq (pts_w (F := F) d L _))
    rw [← e]; iexact Hw'
  isplitl [Hs]; · iexact Hs
  iexists _
  isplitr
  rotate_left
  · iexact HO
  · ipureintro
    intro p hp
    rcases Finset.mem_insert.mp hp with hp | hp
    · exact .inr (hp ▸ rfl)
    · exact .inl hp

/-! ## A tile that works -/

theorem tile_works (A : Buf (Elt F) (xLoc d)) (g : Buf (Elt F) (yLoc d)) (w0 o0 : Flat F) (O : CellTallies nD τ sig (HIx 1)) (W : Waits sig (HIx 1)) :
    iprop(□ Transfers.MayWaits (thr d L) (none : HIx 1) O ∗ (xLoc d ↦[rowSet (bat L h1)]{fullShare} A) ∗ (yLoc d ↦[rowSet (bat L h1)]{fullShare} g)
        ∗ wPts d L w0 ∗ oPts d L o0 ∗ semVal (cell0 d L) 0 ∗ semVal (cell1 d L) 0 ∗ owes (thr d L) O W)
      ⊢ wpT d L (cc0__dtw_body L xV (Memref.isWhole_whole _) yV (Memref.isWhole_whole _) wM (Memref.isWhole_whole _) oM (Memref.isWhole_whole _) cc0_scoped0 cc0_scoped1)
          fun _ => iprop((xLoc d ↦[rowSet (bat L h1)]{fullShare} A) ∗ (yLoc d ↦[rowSet (bat L h1)]{fullShare} (tableOf A : Buf (Elt F) (yLoc d)))
            ∗ (∃ f, wPts d L f) ∗ (∃ f, oPts d L f) ∗ semVal (cell0 d L) 0 ∗ semVal (cell1 d L) 0
            ∗ ∃ W', ⌜∀ p ∈ W', p ∈ W ∨ p.2 = none⌝ ∗ owes (thr d L) O W') := by
  rw [cc0__dtw_body_eq_skeleton]
  unfold cc0__dtw_body_skel wpT
  rw [dif_pos h1]
  simp only [wp_bind]
  iintro ⟨#Hmw, Hx, Hy, Hw, Ho, Hs0, Hs1, HO⟩
  iapply (wp_wand_r frame _ _)
  isplitl [Hx Hw Hs0 HO]
  · iapply (part48_runs d L h1 A w0 O W)
    isplitr; · iexact Hmw
    isplitl [Hx]; · iexact Hx
    isplitl [Hw]; · iexact Hw
    isplitl [Hs0]; · iexact Hs0
    iexact HO
  iintro %r ⟨%hr, Hx, Hw, Hs0, %W1, %hW1, HO⟩
  subst hr
  dsimp only
  have H49 := part49_runs (d := d) (L := L) (W := rowOf A (bat L h1)) (o := o0) (arg2 := xV) (harg2 := Memref.isWhole_whole _) (arg3 := yV) (harg3 := Memref.isWhole_whole _)
    (harg4 := Memref.isWhole_whole _) (harg5 := Memref.isWhole_whole _) (r0 := cc0_scoped0) (r1 := cc0_scoped1) (h1 := h1) (consts (F := F))
  unfold Runs wpT at H49
  iapply (wp_wand_r frame _ _)
  isplitl [Hw Ho]
  · iapply H49
    isplitl [Hw] <;> iassumption
  iintro %r ⟨%o1, %hr, Hw, Ho⟩
  obtain ⟨y5, y6, y7, x0, x1, x2, x3, x4, x5, x6, x7, x8, x9, x10, x11, x12, x13, x14, x15, x16, x17, x18, x19, x20, x21, x22, x23⟩ := r
  obtain ⟨rfl, rfl, rfl, hG⟩ := hr
  dsimp only
  have H50 := part50_runs (d := d) (L := L) (arg2 := xV) (harg2 := Memref.isWhole_whole _) (arg3 := yV) (harg3 := Memref.isWhole_whole _)
    (harg4 := Memref.isWhole_whole _) (harg5 := Memref.isWhole_whole _) (r0 := cc0_scoped0) (r1 := cc0_scoped1) (h1 := h1) (consts (F := F)) hG
  unfold Runs wpT at H50
  iapply (wp_wand_r frame _ _)
  isplitl [Hw Ho]
  · iapply H50
    isplitl [Hw] <;> iassumption
  iintro %r ⟨%o2, %hD, Hw, Ho⟩
  ihave Hy' := (Entails.of_eq (pts_yRow (F := F) d L h1 _).symm) $$ Hy
  ihave Ho' := (Entails.of_eq (pts_o (F := F) d L _).symm) $$ Ho
  sl_exec
  sl_step
  isplitl [Hx]; · iexact Hx
  isplitl [Hy']
  · iapply (Entails.of_eq (wrote d L h1 A g o2 hD)); iexact Hy'
  isplitl [Hw]; · iexists _; iexact Hw
  isplitl [Ho']
  · iexists _; iapply (Entails.of_eq (pts_o (F := F) d L _)); iexact Ho'
  isplitl [Hs0]; · iexact Hs0
  isplitl [Hs1]; · iexact Hs1
  iexists _
  isplitr
  rotate_left
  · iexact HO
  · ipureintro
    intro p hp
    rcases Finset.mem_insert.mp hp with hp | hp
    · exact .inr (hp ▸ rfl)
    · exact hW1 p hp

end Copies

end Cert.Proof.Tile
-- ==== Proof.Launch.lean ====
/-
  The kernel's run: @main reshapes the costs to one row a batch, hands each of the first eight tiles its row of them and
  of the tables, and reshapes the tables back. From any launch memory every fair run ends with the tables of the costs in
  the result, the costs as they were and every semaphore at zero.
-/
module

public import proofs.«01_k».proof.Proof.Tile
public import proofs.«01_k».proof.Proof.Gen.Kernel

@[expose] public section

noncomputable section

namespace Cert.Proof.Launch

open Cert.KernelIdeal Cert.KernelIdeal.Gen Cert.Proof.Table Cert.Proof.Run Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

section Launch

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev aLoc (d : Dev nD) : Loc nD τ sig := (SparseCore.T d).loc main_arg0
abbrev rLoc (d : Dev nD) : Loc nD τ sig := (SparseCore.T d).loc main_v2

/-- A device's costs, a row a batch. -/
def costs (d : Dev nD) : S8x32768.Idx → F .f32 := shapeCast S8x32768 (m (aLoc d)) shapeCasts_S8x128x256_S8x32768

variable [FloatOps F]

/-- What @main returns: the tables of the costs. -/
def tables (d : Dev nD) : S8x128x256.Idx → F .f32 := shapeCast S8x128x256 (tableOf (costs m d)) shapeCasts_S8x32768_S8x128x256

/-! ## What the handshakes carry -/

abbrev xPts (d : Dev nD) : sProp 𝕄 := xLoc d ↦{fullShare} (costs m d : Buf (Elt F) (xLoc d))
abbrev yPts (d : Dev nD) (f : Buf (Elt F) (yLoc d)) : sProp 𝕄 := yLoc d ↦{fullShare} f
abbrev yEnd (d : Dev nD) : Buf (Elt F) (yLoc d) := tableOf (costs m d)

/-- Batch `s`'s rows, the tables' at `f`. -/
abbrev rows (d : Dev nD) (f : Buf (Elt F) (yLoc d)) (s : Fin 8) : sProp 𝕄 :=
  iprop((xLoc d ↦[rowSet s]{fullShare} (costs m d : Buf (Elt F) (xLoc d))) ∗ yLoc d ↦[rowSet s]{fullShare} f)

/-- What tile `i` is handed: its batch's rows, if it has a batch. -/
def deal (d : Dev nD) (f : Buf (Elt F) (yLoc d)) (i : Fin 16) : sProp 𝕄 := if h : i.val < 8 then rows m d f ⟨i.val, h⟩ else iprop(emp)

instance deal_storable (d : Dev nD) (f : Buf (Elt F) (yLoc d)) (i : Fin 16) : BI.Storable (upEmb : UEmb _ 𝕄) (deal m d f i) := by
  unfold deal; split <;> infer_instance

def P : (K (F := F)).Pay (nD := nD) (Val := Elt F) (Name := ℕ) (U := UU) where
  st := fun q d _ => match q with | 0 => iprop(xPts m d ∗ yPts d (m (yLoc d)))
  dn := fun q d _ => match q with | 0 => iprop(xPts m d ∗ yPts d (yEnd m d))
  go := fun q d _ i => match q with | 0 => deal m d (m (yLoc d)) (Fin.cast nSub_zero i)
  td := fun q d _ i => match q with | 0 => deal m d (yEnd m d) (Fin.cast nSub_zero i)
  x := fun _ _ => iprop(emp)

instance P_storable : (P (F := F) m).IsStorable where
  st q d _ := match q with
    | 0 => (inferInstance : BI.Storable (upEmb : UEmb _ 𝕄) iprop(xPts m d ∗ yPts d (m (yLoc d))))
  dn q d _ := match q with
    | 0 => (inferInstance : BI.Storable (upEmb : UEmb _ 𝕄) iprop(xPts m d ∗ yPts d (yEnd m d)))
  go q d _ i := match q with
    | 0 => (inferInstance : BI.Storable (upEmb : UEmb _ 𝕄) (deal m d (m (yLoc d)) (Fin.cast nSub_zero i)))
  td q d _ i := match q with
    | 0 => (inferInstance : BI.Storable (upEmb : UEmb _ 𝕄) (deal m d (yEnd m d) (Fin.cast nSub_zero i)))

/-! ## A tile's task -/

section Task

variable (d : Dev nD) (L : grid0.Coords)

theorem bound_one : grid0.bound 1 = 16 := rfl
abbrev jL (L : grid0.Coords) : Fin 16 := Fin.cast bound_one (L 1)

theorem ownSems0_V :
    (ownSems0 (thr d L) : sProp 𝕄)
      = iprop(semVal (cell0 d L) 0 ∗ semVal (cell1 d L) 0 ∗ bigSep (((ownCells (thr d L)).erase (cell0 d L)).erase (cell1 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩)]

theorem ownBufs_V :
    (ownBufs (thr d L) : sProp 𝕄)
      = iprop((∃ f, wPts d L f) ∗ (∃ f, oPts d L f)
          ∗ bigSep (((ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  rfl

theorem task (hF : (K (F := F)).Facts) (O : CellTallies nD τ sig (HIx 1)) (W : Waits sig (HIx 1)) (hO : ∀ g, O g none = 0) :
    iprop(levAts (K (F := F)).L (K (F := F)).lev ∗ emp ∗ deal m d (m (yLoc d)) (jL L)
        ∗ scopedBufs (thr d L) ∗ scopedSems0 (thr d L) ∗ owes (thr d L) O W)
      ⊢ wp frame (wpE (defs₀ (F := F)) 𝒱₀ (thr d L) none) Set.univ
          (cc0__dtw_body L xV (Memref.isWhole_whole _) yV (Memref.isWhole_whole _) wM (Memref.isWhole_whole _) oM (Memref.isWhole_whole _) cc0_scoped0 cc0_scoped1)
          fun _ => iprop(deal m d (yEnd m d) (jL L) ∗ scopedBufs (thr d L) ∗ scopedSems0 (thr d L)
            ∗ ∃ W', ⌜∀ p ∈ W', p ∈ W ∨ p.2 = none⌝ ∗ owes (thr d L) O W') := by
  by_cases h : (L 1).val < 8
  · have h1 := cond_of_low L h
    rw [(K (F := F)).scopedBufs_V hF d (cV L) (jV L), SparseCore.Cfg.scopedSems0_V (Val := Elt F) d (cV L) (jV L), ownSems0_V, ownBufs_V]
    rw [show deal m d (m (yLoc d)) (jL L) = rows m d (m (yLoc d)) (bat L h1) from dif_pos h,
      show deal m d (yEnd m d) (jL L) = rows m d (yEnd m d) (bat L h1) from dif_pos h]
    iintro ⟨#Hlv, -, ⟨Hx, Hy⟩, ⟨⟨%fw, Hw⟩, ⟨%fo, Ho⟩, Hbufs⟩, ⟨Hs0, Hs1, Hsems⟩, HO⟩
    ihave #Hmw := ((K (F := F)).mayWaits_none (thr := thr d L) hO) $$ Hlv
    iapply (wp_wand_r frame _ _)
    isplitl [Hx Hy Hw Ho Hs0 Hs1 HO]
    · iapply (tile_works d L h1 (costs m d) (m (yLoc d)) fw fo O W)
      isplitr; · iexact Hmw
      isplitl [Hx]; · iexact Hx
      isplitl [Hy]; · iexact Hy
      isplitl [Hw]; · iexact Hw
      isplitl [Ho]; · iexact Ho
      isplitl [Hs0]; · iexact Hs0
      isplitl [Hs1]; · iexact Hs1
      iexact HO
    iintro %_ ⟨Hx, Hy, Hw, Ho, Hs0, Hs1, HO⟩
    isplitl [Hx Hy]
    · isplitl [Hx]; · iexact Hx
      iexact Hy
    isplitl [Hw Ho Hbufs]
    · isplitl [Hw]; · iexact Hw
      isplitl [Ho]; · iexact Ho
      iexact Hbufs
    isplitl [Hs0 Hs1 Hsems]
    · isplitl [Hs0]; · iexact Hs0
      isplitl [Hs1]; · iexact Hs1
      iexact Hsems
    iexact HO
  · have k0_h1 : ¬ k0_cond1 L = 1#1 := fun e => h (low_of_cond L e)
    rw [show deal m d (m (yLoc d)) (jL L) = iprop(emp) from dif_neg h, show deal m d (yEnd m d) (jL L) = iprop(emp) from dif_neg h]
    simp only [cc0__dtw_body_eq_skeleton]; unfold cc0__dtw_body_skel
    iintro ⟨-, -, -, Hsb, Hss, HO⟩
    sl_exec
    sl_step
    isplitr; · iempintro
    isplitl [Hsb]; · iexact Hsb
    isplitl [Hss]; · iexact Hss
    iexists W; isplitr
    · ipureintro; exact fun p hp => .inl hp
    · iexact HO

end Task

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__dtw_body (coordsV c s) xV (Memref.isWhole_whole _) yV (Memref.isWhole_whole _)
          wM (Memref.isWhole_whole _) oM (Memref.isWhole_whole _) cc0_scoped0 cc0_scoped1) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (task m d (coordsV ⟨_, hc.1⟩ ⟨_, hc.2⟩) hF O W hO).trans (wp_mono frame _ _ fun _ => obl_post)

theorem rows_disjoint : ∀ i ∈ (Finset.univ : Finset (Fin 8)), ∀ j ∈ (Finset.univ : Finset (Fin 8)), i ≠ j → Disjoint (rowSet i) (rowSet j) :=
  fun i _ j _ h => Rect.part_disjoint hdiv h
theorem rows_cover : (Finset.univ : Finset (Fin 8)).biUnion rowSet = Finset.univ := Rect.biUnion_part hdiv

theorem xPts_rows (d : Dev nD) (f : Buf (Elt F) (xLoc d)) :
    (xLoc d ↦{fullShare} f : sProp 𝕄) = bigSep Finset.univ fun i : Fin 8 => xLoc d ↦[rowSet i]{fullShare} f := by
  rw [← pointsTo_biUnion Finset.univ (ℓ := xLoc d) rowSet rows_disjoint, rows_cover]; try rfl
theorem yPts_rows (d : Dev nD) (f : Buf (Elt F) (yLoc d)) :
    (yLoc d ↦{fullShare} f : sProp 𝕄) = bigSep Finset.univ fun i : Fin 8 => yLoc d ↦[rowSet i]{fullShare} f := by
  rw [← pointsTo_biUnion Finset.univ (ℓ := yLoc d) rowSet rows_disjoint, rows_cover]; try rfl

/-- The tiles that have a batch, and those that have none. -/
def busy (s : Fin 8) : Fin 16 := ⟨s.val, Nat.lt_of_lt_of_le s.isLt (by decide)⟩
def idle (s : Fin 8) : Fin 16 := ⟨s.val + 8, Nat.add_lt_add_right s.isLt 8⟩
theorem busy_inj : Function.Injective busy := by decide
theorem idle_inj : Function.Injective idle := by decide
theorem tiles_split : (Finset.univ : Finset (Fin 16)) = Finset.univ.image busy ∪ Finset.univ.image idle := by decide

/-- The tiles' shares are the batches' rows. -/
theorem deal_all (d : Dev nD) (f : Buf (Elt F) (yLoc d)) :
    (bigSep Finset.univ fun i : Fin ((K (F := F)).nSub 0) => deal m d f (Fin.cast nSub_zero i)) = iprop(xPts m d ∗ yPts d f) := by
  show (bigSep (Finset.univ : Finset (Fin 16)) fun i => deal m d f i) = _
  rw [tiles_split, SparseCore.bigSep_union' (by decide),
    SparseCore.bigSep_image_of_injOn (f := busy) (s := Finset.univ) (fun a _ b _ e => busy_inj e) (deal m d f),
    SparseCore.bigSep_image_of_injOn (f := idle) (s := Finset.univ) (fun a _ b _ e => idle_inj e) (deal m d f),
    bigSep_congr (Φ := fun s : Fin 8 => deal m d f (busy s)) (Ψ := rows m d f) (fun s _ => dif_pos s.isLt),
    bigSep_congr (Φ := fun s : Fin 8 => deal m d f (idle s)) (Ψ := fun _ => iprop(emp)) (fun s _ => dif_neg (fun h => absurd h (Nat.not_lt.2 (Nat.le_add_left _ _)))),
    show (bigSep (Finset.univ : Finset (Fin 8)) fun _ => iprop(emp)) = (iprop(emp) : sProp 𝕄) from bigSep_emp_const _, bigSep_sep', ← xPts_rows, ← yPts_rows]
  exact equiv_iff.mp BI.sep_emp

theorem vecSplit : (K (F := F)).VecSplit' (P m) 0 := by
  intro d c
  show iprop(xPts m d ∗ yPts d (m (yLoc d)))
    ⊢ |={Set.univ}=> iprop((bigSep Finset.univ fun i : Fin ((K (F := F)).nSub 0) => deal m d (m (yLoc d)) (Fin.cast nSub_zero i))
        ∗ ((bigSep Finset.univ fun i : Fin ((K (F := F)).nSub 0) => deal m d (yEnd m d) (Fin.cast nSub_zero i)) -∗ iprop(xPts m d ∗ yPts d (yEnd m d))))
  rw [deal_all, deal_all]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem none_of {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [none_of]; iempintro
  unfold P; dsimp only
  rw [show (bigSep Finset.univ fun _ : Thread nD τ => bigSep Finset.univ fun _ : Fin 1 => (iprop(emp) : sProp 𝕄)) = iprop(emp) from by
    rw [bigSep_congr fun _ _ => none_of _, none_of]]
  iempintro

/-! ## @main on the TensorCore -/

abbrev a' : DevRef τ sig := Proc.devRef .tc (main_arg0 : Ref sig .tc)
abbrev x' : DevRef τ sig := Proc.devRef .tc (main_v0 : Ref sig .tc)
abbrev y' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) shapeCasts_S8x128x256_S8x32768
abbrev opOut : HloOp τ sig (Elt F) := StableHlo.reshape main_v1 main_v2 (rfl : (.f32 : EltTy) = .f32) shapeCasts_S8x32768_S8x128x256

/-- The TensorCore's arrays. -/
abbrev S4 : Finset (DevRef τ sig) := {a', x', y', r'}

omit [FloatOps F] in
theorem held_S4 (d : Dev nD) (W : Valuation τ sig (Elt F)) :
    (held (T d) S4 W : sProp 𝕄) = iprop((aLoc d ↦{fullShare} W a') ∗ (xLoc d ↦{fullShare} W x') ∗ (yLoc d ↦{fullShare} W y') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (yLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at launch, once the costs are reshaped, and once the tiles are done. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) y' (yEnd m d)

omit [FloatOps F] in
theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) := (opIn (F := F)).result_of_not_mem (V0 m d) (b := a') (show a' ∉ ({x'} : Finset (DevRef τ sig)) by decide)
theorem V1_y (d : Dev nD) : V1 m d y' = m (yLoc d) := (opIn (F := F)).result_of_not_mem (V0 m d) (b := y') (show y' ∉ ({x'} : Finset (DevRef τ sig)) by decide)
theorem V1_x (d : Dev nD) : V1 m d x' = costs m d := by unfold V1; exact StableHlo.reshape_result main_arg0 main_v0 _ _ _ _ _
theorem V2_a (d : Dev nD) : V2 m d a' = m (aLoc d) := (Function.update_of_ne (show a' ≠ y' by decide) _ _).trans (V1_a m d)
theorem V2_x (d : Dev nD) : V2 m d x' = costs m d := (Function.update_of_ne (show x' ≠ y' by decide) _ _).trans (V1_x m d)
theorem V2_y (d : Dev nD) : V2 m d y' = yEnd m d := Function.update_self _ _ _
theorem V2_r (d : Dev nD) : V2 m d r' = V1 m d r' := Function.update_of_ne (show r' ≠ y' by decide) _ _
theorem V3_a (d : Dev nD) : (opOut (F := F)).result (V2 m d) a' = m (aLoc d) :=
  ((opOut (F := F)).result_of_not_mem (V2 m d) (b := a') (show a' ∉ ({r'} : Finset (DevRef τ sig)) by decide)).trans (V2_a m d)
theorem V3_r (d : Dev nD) : (opOut (F := F)).result (V2 m d) r' = tables m d :=
  (StableHlo.reshape_result main_v1 main_v2 _ _ _ _ _).trans (congrArg (fun f => shapeCast S8x128x256 f shapeCasts_S8x32768_S8x128x256) (V2_y m d))

theorem held_V1 (d : Dev nD) :
    (held (T d) S4 ((opIn (F := F)).result (V0 m d)) : sProp 𝕄)
      = iprop((aLoc d ↦{fullShare} m (aLoc d)) ∗ xPts m d ∗ yPts d (m (yLoc d)) ∗ rLoc d ↦{fullShare} V1 m d r') := by
  show (held (T d) S4 (V1 m d) : sProp 𝕄) = _
  rw [held_S4, V1_a, V1_x, V1_y]
theorem held_V3 (d : Dev nD) :
    (held (T d) S4 ((opOut (F := F)).result (V2 m d)) : sProp 𝕄)
      = iprop((aLoc d ↦{fullShare} m (aLoc d)) ∗ (xLoc d ↦{fullShare} (opOut (F := F)).result (V2 m d) x')
          ∗ (yLoc d ↦{fullShare} (opOut (F := F)).result (V2 m d) y') ∗ rLoc d ↦{fullShare} (tables m d : Buf (Elt F) (rLoc d))) := by
  rw [held_S4, V3_a, V3_r]

theorem st0_eq (d : Dev nD) : (bigSep Finset.univ fun c : Fin ((K (F := F)).nCore 0) => (P m).st 0 d c) = iprop(xPts m d ∗ yPts d (m (yLoc d))) :=
  bigSep_univ_of_subsingleton (0 : Fin 1)
theorem dn0_eq (d : Dev nD) : (bigSep Finset.univ fun c : Fin ((K (F := F)).nCore 0) => (P m).dn 0 d c) = iprop(xPts m d ∗ yPts d (yEnd m d)) :=
  bigSep_univ_of_subsingleton (0 : Fin 1)

theorem hIn : (opIn (F := F)).bufs ⊆ S4 := show ({a', x'} : Finset (DevRef τ sig)) ⊆ S4 by decide
theorem hOut : (opOut (F := F)).bufs ⊆ S4 := show ({y', r'} : Finset (DevRef τ sig)) ⊆ S4 by decide

/-- What @main leaves: the costs as they were, the tables in the result. -/
abbrev FIN (d : Dev nD) : sProp 𝕄 := iprop((aLoc d ↦{fullShare} m (aLoc d)) ∗ rLoc d ↦{fullShare} (tables m d : Buf (Elt F) (rLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨Ha, Hx, Hy, Hr⟩
  iapply ((K (F := F)).wp_run (D (F := F)) 𝒱 (EH := EH) (P := P m) κ d 0) $$ [Hst Ha Hx Hy Hr Hb Hts]
  isplitr; · iexact Hctx
  isplitl [Hst]; · iexact Hst
  isplitl [Hx Hy]
  · rw [st0_eq]
    isplitl [Hx]; · iexact Hx
    iexact Hy
  iintro ⟨Hst, Hdn⟩
  ihave Hdn' := (Entails.of_eq (dn0_eq m d)) $$ Hdn
  icases Hdn' with ⟨Hx, Hy⟩
  iapply (wp_hlo_within 𝒱 (SparseCore.T d) none Set.univ (op := opOut) (S := S4) hOut (V := V2 m d)) $$ [Hb Ha Hx Hy Hr]
  · isplitl [Hb]; · iexact Hb
    rw [held_S4, V2_a, V2_x, V2_y, V2_r]
    isplitl [Ha]; · iexact Ha
    isplitl [Hx]; · iexact Hx
    isplitl [Hy]; · iexact Hy
    iexact Hr
  iintro ⟨Hb, Hheld⟩
  ihave Hh := (Entails.of_eq (held_V3 m d)) $$ Hheld
  icases Hh with ⟨Ha, -, -, Hr⟩
  rw [wp_ret]; imodintro; imodintro
  isplitl [Hst]; · iexact Hst
  isplitr [Hb Hts]
  · isplitl [Ha]; · iexact Ha
    iexact Hr
  isplitl [Hb] <;> iassumption

def fq (d : Dev nD) (s' : Phys nD τ sig (Elt F)) : Prop := s'.mem.mem (aLoc d) = m (aLoc d) ∧ s'.mem.mem (rLoc d) = (tables m d : Buf (Elt F) (rLoc d))

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := (tables m d : Buf (Elt F) (rLoc d)))) $$ [HSI Hr]
  · isplitl [HSI] <;> iassumption
  icases H with %h2
  ipureintro; exact ⟨funext fun i => h1 i (Finset.mem_univ i), funext fun i => h2 i (Finset.mem_univ i)⟩

/-! ## The program's run and its frames -/

def QC : PUnit × MemSt nD τ sig (Elt F) → Prop :=
  fun r => (∀ c : Dev nD, r.2.mem (aLoc c) = m (aLoc c) ∧ r.2.mem (rLoc c) = (tables m c : Buf (Elt F) (rLoc c))) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

theorem frame_ideal : Cert.quiescent_KernelIdeal := fun m ρ _ =>
  (θ_run Cert.KernelIdeal.defs _ _).mono (fun _ h => ⟨fun c => (h.1 c).1, h.2⟩) (run_main (F := Ideal) m ρ)

/-- The two programs are one text: the kernel's run is the idealized one's at the machine's floats. -/
theorem frame_kernel : Cert.quiescent_Kernel := fun m ρ _ =>
  (θ_run Cert.KernelIdeal.defs _ _).mono (fun _ h => ⟨fun c => (h.1 c).1, h.2⟩) (run_main (F := Bits) m ρ)

end Cert.Proof.Launch
-- ==== Proof.Equation.lean ====
/-
  One cell over the extended reals. The kernel takes the greatest of the three neighbours before the cost is added, the
  reference after; the kernel evaluates the cubic by Horner's rule, the reference term by term. The two agree at every
  extended real, the infinities included.
-/
module

public import proofs.«01_k».proof.Proof.Table
public import Idealize.ShloMosaic.PureOps.Ideal
public import Idealize.ShloMosaic.Lib.Pointwise

@[expose] public section

noncomputable section

namespace Cert.Proof.Equation

open Idealize.ShloMosaic Cert.Proof.Table

/-! ## Constants -/

/-- A pattern of `f32` whose exponent is not all ones denotes a real number. -/
theorem real_of_bits {b : BitVec 32} (h : (b.extractLsb' 23 8).toNat ≠ 255) : ∃ r : ℝ, Ideal.ofBits .f32 b = (r : EReal) := by
  show ∃ r : ℝ, Ideal.ieee 8 23 b = (r : EReal)
  unfold Ideal.ieee
  dsimp only
  rw [if_neg (show ¬ (b.extractLsb' 23 8).toNat = 2 ^ 8 - 1 from h)]
  split <;> exact ⟨_, rfl⟩

theorem neg_inf : Ideal.ofBits .f32 0xFF800000#32 = ⊥ := by
  show Ideal.ieee 8 23 (0xFF800000#32 : BitVec 32) = ⊥
  unfold Ideal.ieee
  dsimp only
  rw [if_pos (by decide), if_pos (by decide), if_pos (by decide)]

abbrev k0 : EReal := Ideal.ofBits .f32 0xBFA29022#32
abbrev k1 : EReal := Ideal.ofBits .f32 0x3FD5B758#32
abbrev k2 : EReal := Ideal.ofBits .f32 0xBEE3C576#32
abbrev k3 : EReal := Ideal.ofBits .f32 0x3D4F64F1#32

/-! ## The two spellings of a cell -/

/-- The cubic, term by term. -/
def poly (s : EReal) : EReal := k0 + k1 * s + k2 * (s * s) + k3 * (s * s * s)

/-- The sum of the exponentials of three numbers less their greatest. -/
def expSum (a b c : EReal) : EReal :=
  Ideal.exp (a - max a (max b c)) + Ideal.exp (b - max a (max b c)) + Ideal.exp (c - max a (max b c))

/-- The reference's cell: the three neighbours, the cost already added. -/
def soft (a b c : EReal) : EReal := poly (expSum a b c) + max a (max b c)

/-! ## Real numbers among extended ones -/

theorem exp_real {x m : EReal} (h : x ≤ m) : ∃ r : ℝ, Ideal.exp (x - m) = (r : EReal) := by
  induction m with
  | bot => rw [le_bot_iff.mp h]; exact ⟨0, rfl⟩
  | top =>
    refine ⟨0, ?_⟩
    rw [sub_eq_add_neg, EReal.neg_top, EReal.add_bot]; rfl
  | coe m =>
    induction x with
    | bot => exact ⟨0, by rw [sub_eq_add_neg, EReal.bot_add]; rfl⟩
    | top => exact absurd h (not_le.mpr (EReal.coe_lt_top m))
    | coe x => exact ⟨Real.exp (x - m), by rw [← EReal.coe_sub]; rfl⟩

theorem expSum_real (a b c : EReal) : ∃ r : ℝ, expSum a b c = (r : EReal) := by
  obtain ⟨r, hr⟩ := exp_real (le_max_left a (max b c))
  obtain ⟨s, hs⟩ := exp_real ((le_max_left b c).trans (le_max_right a (max b c)))
  obtain ⟨t, ht⟩ := exp_real ((le_max_right b c).trans (le_max_right a (max b c)))
  exact ⟨r + s + t, by unfold expSum; rw [hr, hs, ht, EReal.coe_add, EReal.coe_add]⟩

theorem poly_real (s : ℝ) : ∃ r : ℝ, poly (s : EReal) = (r : EReal)
    ∧ ((k3 * (s : EReal) + k2) * (s : EReal) + k1) * (s : EReal) + k0 = (r : EReal) := by
  obtain ⟨c0, h0⟩ : ∃ r : ℝ, k0 = (r : EReal) := real_of_bits (by decide)
  obtain ⟨c1, h1⟩ : ∃ r : ℝ, k1 = (r : EReal) := real_of_bits (by decide)
  obtain ⟨c2, h2⟩ : ∃ r : ℝ, k2 = (r : EReal) := real_of_bits (by decide)
  obtain ⟨c3, h3⟩ : ∃ r : ℝ, k3 = (r : EReal) := real_of_bits (by decide)
  refine ⟨c0 + c1 * s + c2 * (s * s) + c3 * (s * s * s), ?_, ?_⟩
  · unfold poly; rw [h0, h1, h2, h3]; norm_cast
  · rw [h0, h1, h2, h3, show c0 + c1 * s + c2 * (s * s) + c3 * (s * s * s) = ((c3 * s + c2) * s + c1) * s + c0 by ring]; norm_cast

/-- Adding one number to two leaves their difference as it was. -/
theorem sub_shift (x m : EReal) (w : ℝ) : x + w - (m + w) = x - m := by
  induction m with
  | bot => simp only [EReal.bot_add, sub_eq_add_neg, EReal.neg_bot]; induction x <;> simp [← EReal.coe_add]
  | top => simp [sub_eq_add_neg]
  | coe m =>
    induction x with
    | bot => simp [sub_eq_add_neg]
    | top => rw [EReal.top_add_coe, ← EReal.coe_add, EReal.top_sub_coe, EReal.top_sub_coe]
    | coe x => rw [← EReal.coe_add, ← EReal.coe_add, ← EReal.coe_sub, ← EReal.coe_sub, add_sub_add_right_eq_sub]

theorem max_shift (a b c w : EReal) : max (a + w) (max (b + w) (c + w)) = max a (max b c) + w := by
  have hm : Monotone fun x : EReal => x + w := fun _ _ h => add_le_add_left h w
  rw [hm.map_max, hm.map_max]

theorem expSum_shift (a b c : EReal) (w : ℝ) : expSum (a + w) (b + w) (c + w) = expSum a b c := by
  unfold expSum
  rw [max_shift, sub_shift, sub_shift, sub_shift]

/-! ## The cells agree -/

theorem cell_eq (d s t w : EReal) : cell (F := Ideal) d s t w = soft (s + w) (d + w) (t + w) := by
  have hk : cell (F := Ideal) d s t w
      = ((k3 * expSum s d t + k2) * expSum s d t + k1) * expSum s d t + k0 + (max s (max d t) + w) := by
    have e : expSum s d t = Ideal.exp (d - max (max d s) t) + Ideal.exp (s - max (max d s) t) + Ideal.exp (t - max (max d s) t) := by
      unfold expSum
      rw [show max (max d s) t = max s (max d t) by rw [max_comm d s, max_assoc], add_comm (Ideal.exp (s - _))]
    rw [e, show max s (max d t) = max (max d s) t by rw [max_comm d s, max_assoc]]
    rfl
  rw [hk]
  unfold soft
  rw [max_shift]
  obtain ⟨r, hr⟩ := expSum_real s d t
  obtain ⟨p, hp, hp'⟩ := poly_real r
  rw [hr, hp']
  obtain ⟨r', hr'⟩ := expSum_real (s + w) (d + w) (t + w)
  obtain ⟨q, hq, -⟩ := poly_real r'
  induction w with
  | coe w => rw [expSum_shift, hr, hp]
  | bot => rw [hr', hq, EReal.add_bot, EReal.add_bot, EReal.add_bot]
  | top =>
    rw [hr', hq]
    generalize max s (max d t) = m
    induction m <;> simp

end Cert.Proof.Equation
-- ==== Proof.Reference.lean ====
/-
  The reference's run. One trip computes every inner cell from the table before it; after `n` trips the cells on the
  borders and on the antidiagonals up to `n + 1` hold what the kernel's table holds there, and later trips keep them. The
  loop's 383 trips settle the whole table.
-/
module

public import proofs.«01_k».proof.Proof.Equation
public import proofs.«01_k».proof.Proof.Launch
public import proofs.«01_k».proof.Proof.Gen.ReferenceIdeal.StepRun
public import Idealize.ShloMosaic.Lib.Quiescent

@[expose] public section

noncomputable section

namespace Cert.Proof.Reference

open Cert.ReferenceIdeal Cert.ReferenceIdeal.Gen Cert.ReferenceIdeal.Step
open Idealize.ShloMosaic Idealize.ShloMosaic.TcCoe Idealize.SL.Sem
open Cert.Proof.Table Cert.Proof.Equation

/-! ## One trip at an index -/

section Trip

variable (n : ℕ) (s : State Ideal) (b : Fin 8) (i : Fin 128) (j : Fin 256)

/-- The table a trip starts from, and the costs. -/
abbrev tab (b : Fin 8) (i : Fin 129) (j : Fin 257) : EReal := s.main_v16_5 (ix3 b i j)
abbrev cost : EReal := s.main_v16_0 (ix3 b i j)

/-- The three neighbours of the inner cell `(i, j)` with the cost added, in the order the reference stacks them. -/
abbrev above : EReal := tab s b i.castSucc j.succ + cost s b i j
abbrev left : EReal := tab s b i.succ j.castSucc + cost s b i j
abbrev corner : EReal := tab s b i.castSucc j.castSucc + cost s b i j

theorem stacked (k : Fin 3) : b9 n s (ix4 k b i j) = ![above s b i j, left s b i j, corner s b i j] k := by
  have h1 : (⟨1 + j.val, by omega⟩ : Fin 257) = j.succ := Fin.ext (Nat.add_comm _ _)
  have h2 : (⟨1 + i.val, by omega⟩ : Fin 129) = i.succ := Fin.ext (Nat.add_comm _ _)
  pointwise [b9, b8, b7, b6, b5, b4, b3, b2, b1, b0]
  rw [h1, h2]
  match k with
  | 0 => rfl
  | 1 => rfl
  | 2 => rfl

theorem greatest : b11 n s (ix3 b i j) = max (above s b i j) (max (left s b i j) (corner s b i j)) := by
  unfold b11 b10
  rw [Host.reduce_eq_fold]
  pointwise
  simp only [stacked, neg_inf]
  rw [show (Finset.univ : Finset (Fin 3)) = {0, 1, 2} by decide, Finset.fold_insert (by decide), Finset.fold_insert (by decide), Finset.fold_singleton]
  exact congrArg (fun x => max (above s b i j) (max (left s b i j) x)) (max_bot_right _)

theorem summed : b17 n s (ix3 b i j) = expSum (above s b i j) (left s b i j) (corner s b i j) := by
  pointwise [b17, b16, b15, b14, b13, b12]
  rw [Fin.sum_univ_three]
  simp only [stacked, greatest]
  rfl

theorem inner : b35 n s (ix3 b i j) = soft (above s b i j) (left s b i j) (corner s b i j) := by
  pointwise [b35, b34, b33, b32, b31, b30, b29, b28, b27, b26, b25, b24, b23, b22, b21, b20, b19, b18]
  rw [summed, greatest]
  rfl

end Trip

/-! ## The borders -/

theorem positive (k : ℕ) (h : k < 257) : IntOp.cmpi .sgt (BitVec.ofNat 32 k) 0#32 = if 0 < k then 1#1 else 0#1 := by
  have : ∀ k : Fin 257, IntOp.cmpi .sgt (BitVec.ofNat 32 k.val) 0#32 = if 0 < k.val then 1#1 else 0#1 := by decide +kernel
  exact this ⟨k, h⟩
theorem zero (k : ℕ) (h : k < 257) : IntOp.cmpi .eq (BitVec.ofNat 32 k) 0#32 = if k = 0 then 1#1 else 0#1 := by
  have : ∀ k : Fin 257, IntOp.cmpi .eq (BitVec.ofNat 32 k.val) 0#32 = if k.val = 0 then 1#1 else 0#1 := by decide +kernel
  exact this ⟨k, h⟩

theorem outside (i j : ℕ) (hi : i < 257) (hj : j < 257) (h : i = 0 ∨ j = 0) :
    IntOp.andi (IntOp.cmpi .sgt (BitVec.ofNat 32 i) 0#32) (IntOp.cmpi .sgt (BitVec.ofNat 32 j) 0#32) = 0#1 := by
  rw [positive i hi, positive j hj]
  rcases h with h | h
  · rw [h, if_neg (Nat.lt_irrefl 0)]; split <;> rfl
  · rw [h, if_neg (Nat.lt_irrefl 0)]; split <;> rfl
theorem inside (i j : ℕ) (hi : i < 257) (hj : j < 257) (h : 0 < i ∧ 0 < j) :
    IntOp.andi (IntOp.cmpi .sgt (BitVec.ofNat 32 i) 0#32) (IntOp.cmpi .sgt (BitVec.ofNat 32 j) 0#32) = 1#1 := by
  rw [positive i hi, positive j hj, if_pos h.1, if_pos h.2]
  rfl

theorem mu_border (W : Cert.KernelIdeal.S32768.Idx → EReal) (i j : ℕ) (h : i = 0 ∨ j = 0) :
    mu (F := Ideal) W i j = if i = 0 ∧ j = 0 then zeroV (F := Ideal) else negV (F := Ideal) := by
  match i, j with
  | 0, 0 => rw [mu]; rfl
  | 0, j + 1 => rw [mu]; rfl
  | i + 1, 0 => rw [mu]; rfl
  | i + 1, j + 1 => omega

/-- The reference's border. -/
theorem edge (b : Fin 8) (i : Fin 129) (j : Fin 257) :
    K_main_v7 (F := Ideal) (ix3 b i j) = if i.val = 0 ∧ j.val = 0 then zeroV (F := Ideal) else negV (F := Ideal) := by
  pointwise [K_main_v7, K_main_v6, K_main_cst, K_main_cst_1, K_main_call0_v0, K_main_call0_v1, K_main_v5, K_main_v4, K_main_v3, K_main_v2,
    K_main_c_0, K_main_c, K_main_v0, K_main_v1]
  rw [zero i.val (by omega), zero j.val (by omega)]
  have z : zeroV (F := Ideal) = 0 := Ideal.ofBits_zero_f32
  by_cases hi : i.val = 0 <;> by_cases hj : j.val = 0
  · rw [if_pos hi, if_pos hj, if_pos ⟨hi, hj⟩, z]; rfl
  · rw [if_pos hi, if_neg hj, if_neg fun h => hj h.2]; rfl
  · rw [if_neg hi, if_pos hj, if_neg fun h => hi h.1]; rfl
  · rw [if_neg hi, if_neg hj, if_neg fun h => hi h.1]; rfl

theorem trip_border (n : ℕ) (s : State Ideal) (b : Fin 8) (i : Fin 129) (j : Fin 257) (h : i.val = 0 ∨ j.val = 0) :
    b47 n s (ix3 b i j) = K_main_v7 (F := Ideal) (ix3 b i j) := by
  pointwise [b47, b46, b45, b44, b43, b42, b41, b40, b39, b38, b37, b36, K_main_v1, K_main_v0]
  rw [outside i.val j.val (by omega) (by omega) h]
  rfl

theorem trip_inner (n : ℕ) (s : State Ideal) (b : Fin 8) (i : Fin 128) (j : Fin 256) :
    b47 n s (ix3 b i.succ j.succ) = b35 n s (ix3 b i j) := by
  pointwise [b47, b46, b45, b44, b43, b42, b41, b40, b39, b38, b37, b36, K_main_v1, K_main_v0]
  rw [inside i.succ.val j.succ.val (by omega) (by omega) ⟨Nat.succ_pos _, Nat.succ_pos _⟩]
  exact dif_pos ⟨⟨Nat.succ_pos _, i.isLt⟩, Nat.succ_pos _, j.isLt⟩

/-! ## The trips settle the table -/

/-- The reference's states: its start, then trip by trip. -/
def states (A : S8x128x256.Idx → EReal) : ℕ → State Ideal
  | 0 => init A
  | n + 1 => step n (states A n)

theorem states_cost (A : S8x128x256.Idx → EReal) : ∀ n, (states A n).main_v16_0 = A
  | 0 => rfl
  | n + 1 => states_cost A n

/-- Batch `b`'s costs, flat. -/
def flat (A : S8x128x256.Idx → EReal) (b : Fin 8) : Cert.KernelIdeal.S32768.Idx → EReal :=
  Tile.rowOf (F := Ideal) (shapeCast Cert.KernelIdeal.S8x32768 A Cert.KernelIdeal.Gen.shapeCasts_S8x128x256_S8x32768) b

theorem flat_place (A : S8x128x256.Idx → EReal) (b : Fin 8) (i : Fin 128) (j : Fin 256) :
    flat A b (place (i.val * 256 + j.val)) = A (ix3 b i j) := by
  have h : i.val * 256 + j.val < 32768 := by omega
  have e : ∀ k : Fin 32768, flat A b (ix1 k) = A (ix3 b ⟨k.val / 256, by omega⟩ ⟨k.val % 256, by omega⟩) := fun k => by
    pointwise [flat, Tile.rowOf]
  rw [show place (i.val * 256 + j.val) = ix1 (⟨i.val * 256 + j.val, h⟩ : Fin 32768) from (place_eq (p := ix1 (⟨i.val * 256 + j.val, h⟩ : Fin 32768)) rfl).symm, e]
  congr 2 <;> apply Fin.ext <;> simp <;> omega

/-- The table before the first trip. -/
theorem start (A : S8x128x256.Idx → EReal) (b : Fin 8) (i : Fin 129) (j : Fin 257) (h : i.val = 0 ∨ j.val = 0) :
    (states A 0).main_v16_5 (ix3 b i j) = K_main_v7 (F := Ideal) (ix3 b i j) := by
  show K_main_v15 (F := Ideal) (ix3 b i j) = _
  pointwise [K_main_v15, K_main_v14, K_main_v13, K_main_v12, K_main_v11, K_main_v10, K_main_c_5, K_main_c_4, K_main_call2_v0, K_main_v1, K_main_v0]
  rw [outside i.val j.val (by omega) (by omega) h]
  rfl

theorem settled (A : S8x128x256.Idx → EReal) (b : Fin 8) : ∀ (n : ℕ) (i : Fin 129) (j : Fin 257),
    i.val = 0 ∨ j.val = 0 ∨ i.val + j.val ≤ n + 1 → (states A n).main_v16_5 (ix3 b i j) = mu (F := Ideal) (flat A b) i.val j.val := by
  intro n
  induction n with
  | zero =>
    intro i j h
    have h0 : i.val = 0 ∨ j.val = 0 := by omega
    rw [start A b i j h0, edge, mu_border _ _ _ h0]
  | succ n ih =>
    intro i j h
    show b47 n (states A n) (ix3 b i j) = _
    by_cases h0 : i.val = 0 ∨ j.val = 0
    · rw [trip_border _ _ _ _ _ h0, edge, mu_border _ _ _ h0]
    · obtain ⟨i, rfl⟩ := Fin.exists_succ_eq.mpr (show i ≠ 0 from fun e => h0 (.inl (by rw [e]; rfl)))
      obtain ⟨j, rfl⟩ := Fin.exists_succ_eq.mpr (show j ≠ 0 from fun e => h0 (.inr (by rw [e]; rfl)))
      have hs : i.val + j.val ≤ n := by simp only [Fin.val_succ] at h; omega
      rw [trip_inner, inner, Fin.val_succ, Fin.val_succ, mu, cell_eq, flat_place]
      unfold above left corner tab cost
      rw [states_cost, ih i.castSucc j.succ (.inr (.inr (by simp; omega))), ih i.succ j.castSucc (.inr (.inr (by simp; omega))),
        ih i.castSucc j.castSucc (.inr (.inr (by simp; omega)))]
      simp only [Fin.val_succ, Fin.val_castSucc]

/-- What the kernel returns of the costs `A`. -/
def table (A : S8x128x256.Idx → EReal) : S8x128x256.Idx → EReal :=
  shapeCast S8x128x256 (Tile.tableOf (F := Ideal) (shapeCast Cert.KernelIdeal.S8x32768 A Cert.KernelIdeal.Gen.shapeCasts_S8x128x256_S8x32768))
    Cert.KernelIdeal.Gen.shapeCasts_S8x32768_S8x128x256

theorem table_at (A : S8x128x256.Idx → EReal) (b : Fin 8) (i : Fin 128) (j : Fin 256) :
    table A (ix3 b i j) = mu (F := Ideal) (flat A b) (i.val + 1) (j.val + 1) := by
  pointwise [table]
  show mu (F := Ideal) (flat A b) ((i.val * 256 + j.val) / 256 + 1) ((i.val * 256 + j.val) % 256 + 1) = _
  rw [show (i.val * 256 + j.val) / 256 = i.val by omega, show (i.val * 256 + j.val) % 256 = j.val by omega]

theorem result (A : S8x128x256.Idx → EReal) : R_main_v17 (states A 383) = table A := by
  funext p
  idx_vars p
  rw [table_at]
  show extractStridedSlice S8x128x256 ![0, 1, 1] (states A 383).main_v16_5 slices_S8x129x257_S8x128x256_0_1_1 (ix3 p0 p1 p2) = _
  have h1 : (⟨1 + p2.val, by omega⟩ : Fin 257) = p2.succ := Fin.ext (Nat.add_comm _ _)
  have h2 : (⟨1 + p1.val, by omega⟩ : Fin 129) = p1.succ := Fin.ext (Nat.add_comm _ _)
  pointwise
  rw [h1, h2]
  exact settled A p0 383 p1.succ p2.succ (.inr (.inr (by simp only [Fin.val_succ]; omega)))

/-! ## The claims -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = table (m ((c.tc : Thread nD τ).loc main_arg0))
      ∧ r.2.mem ((c.tc : Thread nD τ).loc main_arg0) = m ((c.tc : Thread nD τ).loc main_arg0) :=
  (θ_run _ _ _).mono (fun _ h c => ⟨(h c).1.trans (result _), (h c).2⟩)
    (Cert.ReferenceIdeal.StepRun.run_iter (F := Ideal) m ρ (fun c => states (m ((c.tc : Thread nD τ).loc main_arg0))) (fun _ => rfl) (fun _ _ => rfl))

theorem frame : Cert.quiescent_ReferenceIdeal := fun m ρ _ =>
  (θ_run _ _ _).mono (fun r h => ⟨fun c => (h c).2, Idealize.ShloMosaic.sem_eq_zero_of_no_sems (by decide) r.2⟩) (run m ρ)

theorem algebraic : Cert.algebraic_KernelIdeal_ReferenceIdeal := fun m ρ m' ρ' _ hagree =>
  ⟨fun c => table (m (Launch.aLoc c)),
    (θ_run Cert.KernelIdeal.defs _ _).mono (fun _ h c => ⟨(h.1 c).2, (h.1 c).1⟩) (Launch.run_main (F := Ideal) m ρ),
    (θ_run _ _ _).mono (fun _ h c => ⟨(h c).1.trans (congrArg table (hagree c)), (h c).2⟩) (run m' ρ')⟩

end Cert.Proof.Reference
-- ==== Proof.Log.lean ====
/-
  The cubic and the logarithm on the numbers from 1 to 3: they differ by at most 0.0055. The logarithm is compared with a
  polynomial of `z`, where `s = 2 (1 + z) / (1 - z)`, from the series of the inverse hyperbolic tangent; the difference of
  the cubic and that polynomial, over a common denominator, is a polynomial whose Bernstein coefficients have one sign.
-/
module

public import Mathlib.Analysis.SpecialFunctions.Log.Basic
public import Mathlib.Analysis.SpecialFunctions.ExpDeriv
public import Mathlib.Analysis.Calculus.Deriv.Inverse
public import Mathlib.Analysis.Calculus.Deriv.MeanValue
public import Mathlib.Analysis.Calculus.Deriv.Pow

@[expose] public section

noncomputable section

namespace Cert.Proof.Log

/-- The cubic over the reals. -/
def cubic (s : ℝ) : ℝ :=
  -(5326865 / 4194304) + 1750763 / 1048576 * s + -(7463611 / 16777216) * (s * s) + 13591793 / 268435456 * (s * s * s)

/-- The bound, a number of `f32`. -/
def bound : ℝ := 1476395 / 268435456

/-- Five terms of the series of the inverse hyperbolic tangent. -/
def five (x : ℝ) : ℝ := x + x ^ 3 / 3 + x ^ 5 / 5 + x ^ 7 / 7 + x ^ 9 / 9

theorem log_deriv {x : ℝ} (h : 0 < x) : HasDerivAt Real.log x⁻¹ x := by
  have e := Real.hasDerivAt_exp (Real.log x)
  have p := e.of_local_left_inverse (Real.continuousAt_log h.ne') (Real.exp_pos _).ne'
    ((eventually_gt_nhds h).mono fun _ => Real.exp_log)
  rwa [Real.exp_log h] at p

/-- What the five terms leave of the logarithm, and its derivative. -/
def rest (x : ℝ) : ℝ := Real.log (1 + x) - Real.log (1 - x) - 2 * five x

theorem rest_deriv {x : ℝ} (h0 : 0 ≤ x) (h : x < 1) : HasDerivAt rest (2 * x ^ 10 / (1 - x ^ 2)) x := by
  have hf : HasDerivAt five (1 + x ^ 2 + x ^ 4 + x ^ 6 + x ^ 8) x := by
    have := ((((hasDerivAt_id x).add ((hasDerivAt_pow 3 x).div_const 3)).add ((hasDerivAt_pow 5 x).div_const 5)).add
      ((hasDerivAt_pow 7 x).div_const 7)).add ((hasDerivAt_pow 9 x).div_const 9)
    refine this.congr_deriv ?_
    norm_num
  have h1 : HasDerivAt (fun y => Real.log (1 + y)) (1 + x)⁻¹ x := by
    have p : 0 < 1 + x := by linarith
    exact ((log_deriv p).comp (h := fun y => 1 + y) x ((hasDerivAt_id x).const_add 1)).congr_deriv (mul_one _)
  have h2 : HasDerivAt (fun y => Real.log (1 - y)) (-(1 - x)⁻¹) x := by
    have p : 0 < 1 - x := by linarith
    exact ((log_deriv p).comp (h := fun y => 1 - y) x ((hasDerivAt_id x).const_sub 1)).congr_deriv (mul_neg_one _)
  refine ((h1.sub h2).sub (hf.const_mul 2)).congr_deriv ?_
  have n1 : 1 + x ≠ 0 := by linarith
  have n2 : 1 - x ≠ 0 := by linarith
  have n3 : 1 - x ^ 2 ≠ 0 := by rw [show 1 - x ^ 2 = (1 + x) * (1 - x) by ring]; exact mul_ne_zero n1 n2
  field_simp
  ring

theorem rest_near {x : ℝ} (h0 : 0 ≤ x) (h : x ≤ 1 / 3) : 0 ≤ rest x ∧ rest x ≤ 9 / 44 * x ^ 11 := by
  have at0 : rest 0 = 0 := by unfold rest five; norm_num
  have hd : ∀ y ∈ Set.Icc (0 : ℝ) (1 / 3), HasDerivAt rest (2 * y ^ 10 / (1 - y ^ 2)) y := fun y hy =>
    rest_deriv hy.1 (by linarith [hy.2])
  have hg : ∀ y ∈ Set.Icc (0 : ℝ) (1 / 3),
      HasDerivAt (fun y => 9 / 44 * y ^ 11 - rest y) (9 / 4 * y ^ 10 - 2 * y ^ 10 / (1 - y ^ 2)) y := fun y hy =>
    (((hasDerivAt_pow 11 y).const_mul (9 / 44)).sub (hd y hy)).congr_deriv (by norm_num; ring)
  have sq : ∀ y ∈ Set.Icc (0 : ℝ) (1 / 3), y ^ 2 ≤ 1 / 9 := fun y hy => by nlinarith [hy.1, hy.2]
  have int : ∀ y ∈ interior (Set.Icc (0 : ℝ) (1 / 3)), y ∈ Set.Icc (0 : ℝ) (1 / 3) := fun _ hy => interior_subset hy
  have m1 : MonotoneOn rest (Set.Icc 0 (1 / 3)) :=
    monotoneOn_of_deriv_nonneg (convex_Icc _ _) (fun y hy => (hd y hy).continuousAt.continuousWithinAt)
      (fun y hy => (hd y (int y hy)).differentiableAt.differentiableWithinAt) fun y hy => by
        rw [(hd y (int y hy)).deriv]
        exact div_nonneg (by positivity) (by linarith [sq y (int y hy)])
  have m2 : MonotoneOn (fun y => 9 / 44 * y ^ 11 - rest y) (Set.Icc 0 (1 / 3)) :=
    monotoneOn_of_deriv_nonneg (convex_Icc _ _) (fun y hy => (hg y hy).continuousAt.continuousWithinAt)
      (fun y hy => (hg y (int y hy)).differentiableAt.differentiableWithinAt) fun y hy => by
        rw [(hg y (int y hy)).deriv, sub_nonneg, div_le_iff₀ (by linarith [sq y (int y hy)])]
        have hp : 0 ≤ y ^ 10 := by positivity
        nlinarith [mul_nonneg hp (sub_nonneg.mpr (sq y (int y hy)))]
  have z : (0 : ℝ) ∈ Set.Icc (0 : ℝ) (1 / 3) := ⟨le_rfl, by norm_num⟩
  have a := m1 z ⟨h0, h⟩ h0
  have b := m2 z ⟨h0, h⟩ h0
  rw [at0] at a
  simp only [at0] at b
  exact ⟨a, by norm_num at b; linarith⟩

theorem five_near {x : ℝ} (h0 : 0 ≤ x) (h : x ≤ 1 / 3) :
    2 * five x ≤ Real.log ((1 + x) / (1 - x)) ∧ Real.log ((1 + x) / (1 - x)) ≤ 2 * five x + 1 / 800000 := by
  rw [Real.log_div (by linarith) (by linarith)]
  obtain ⟨a, b⟩ := rest_near h0 h
  have hp : x ^ 11 ≤ (1 / 3) ^ 11 := pow_le_pow_left₀ h0 h _
  unfold rest at a b
  constructor <;> linarith

theorem log_two : |Real.log 2 - 0.693147181| ≤ 1 / 800000 := by
  obtain ⟨a, b⟩ := five_near (x := 1 / 3) (by norm_num) le_rfl
  rw [show (1 + 1 / 3) / (1 - 1 / 3) = (2 : ℝ) by norm_num] at a b
  unfold five at a b
  rw [abs_le]
  constructor <;> linarith

theorem five_near_abs {x : ℝ} (h : |x| ≤ 1 / 3) : |Real.log ((1 + x) / (1 - x)) - 2 * five x| ≤ 1 / 800000 := by
  obtain ⟨l, r⟩ := abs_le.mp h
  rcases le_total 0 x with h0 | h0
  · have := five_near h0 r
    rw [abs_le]
    constructor <;> linarith
  · have := five_near (x := -x) (by linarith) (by linarith)
    have e : Real.log ((1 + x) / (1 - x)) = -Real.log ((1 + -x) / (1 - -x)) := by
      rw [← Real.log_inv, inv_div, sub_neg_eq_add, ← sub_eq_add_neg]
    have o : five (-x) = -five x := by unfold five; ring
    rw [o] at this
    rw [e, abs_le]
    constructor <;> linarith

/-- The cubic of `2 (1 + z) / (1 - z)`, times `(1 - z) ^ 3`. -/
def top (z : ℝ) : ℝ :=
  -(5326865 / 4194304) * (1 - z) ^ 3 + 1750763 / 1048576 * (2 * (1 + z) * (1 - z) ^ 2)
    + -(7463611 / 16777216) * (4 * (1 + z) ^ 2 * (1 - z)) + 13591793 / 268435456 * (8 * (1 + z) ^ 3)

theorem top_eq {z : ℝ} (h : z < 1) : cubic (2 * ((1 + z) / (1 - z))) * (1 - z) ^ 3 = top z := by
  have : 1 - z ≠ 0 := by linarith
  unfold cubic top
  field_simp
  ring

theorem above (t : ℝ) (h0 : 0 ≤ t) (h1 : 0 ≤ 1 - t) :
    0 ≤ (bound - 1 / 70000) * (1 - (8 / 15 * t - 1 / 3)) ^ 3
      + (top (8 / 15 * t - 1 / 3) - (0.693147181 + 2 * five (8 / 15 * t - 1 / 3)) * (1 - (8 / 15 * t - 1 / 3)) ^ 3) := by
  have e : (bound - 1 / 70000) * (1 - (8 / 15 * t - 1 / 3)) ^ 3
      + (top (8 / 15 * t - 1 / 3) - (0.693147181 + 2 * five (8 / 15 * t - 1 / 3)) * (1 - (8 / 15 * t - 1 / 3)) ^ 3)
      = 1769366928473033947 / 68568643584000000000 * (t ^ 0 * (1 - t) ^ 12)
      + 6462047149389297989 / 76187381760000000000 * (t ^ 1 * (1 - t) ^ 11)
      + 13161983235863437979 / 126978969600000000000 * (t ^ 2 * (1 - t) ^ 10)
      + 366770738056848750449 / 634894848000000000000 * (t ^ 3 * (1 - t) ^ 9)
      + 9997768472712756719 / 3359232000000000000 * (t ^ 4 * (1 - t) ^ 8)
      + 28355058784014325547 / 3919104000000000000 * (t ^ 5 * (1 - t) ^ 7)
      + 5484059823867166349 / 559872000000000000 * (t ^ 6 * (1 - t) ^ 6)
      + 3430956096727562633 / 435456000000000000 * (t ^ 7 * (1 - t) ^ 5)
      + 33516680074443511 / 9072000000000000 * (t ^ 8 * (1 - t) ^ 4)
      + 776112299066496979 / 870912000000000000 * (t ^ 9 * (1 - t) ^ 3)
      + 7240587106761299 / 96768000000000000 * (t ^ 10 * (1 - t) ^ 2)
      + 32405368772521 / 4608000000000000 * (t ^ 11 * (1 - t) ^ 1)
      + 150801417236801 / 32256000000000000 * (t ^ 12 * (1 - t) ^ 0) := by
    unfold bound top five
    ring
  rw [e]
  positivity

theorem below (t : ℝ) (h0 : 0 ≤ t) (h1 : 0 ≤ 1 - t) :
    0 ≤ (bound - 1 / 70000) * (1 - (8 / 15 * t - 1 / 3)) ^ 3
      - (top (8 / 15 * t - 1 / 3) - (0.693147181 + 2 * five (8 / 15 * t - 1 / 3)) * (1 - (8 / 15 * t - 1 / 3)) ^ 3) := by
  have e : (bound - 1 / 70000) * (1 - (8 / 15 * t - 1 / 3)) ^ 3
      - (top (8 / 15 * t - 1 / 3) - (0.693147181 + 2 * five (8 / 15 * t - 1 / 3)) * (1 - (8 / 15 * t - 1 / 3)) ^ 3)
      = 27706302980878981 / 137137287168000000000 * (t ^ 0 * (1 - t) ^ 12)
      + 14936593810172383261 / 76187381760000000000 * (t ^ 1 * (1 - t) ^ 11)
      + 162782397987199274521 / 126978969600000000000 * (t ^ 2 * (1 - t) ^ 10)
      + 2254166508360576430801 / 634894848000000000000 * (t ^ 3 * (1 - t) ^ 9)
      + 8892620337186235703 / 1679616000000000000 * (t ^ 4 * (1 - t) ^ 8)
      + 17641745583109343203 / 3919104000000000000 * (t ^ 5 * (1 - t) ^ 7)
      + 1286795020219108651 / 559872000000000000 * (t ^ 6 * (1 - t) ^ 6)
      + 538278173625518617 / 435456000000000000 * (t ^ 7 * (1 - t) ^ 5)
      + 375024558892835773 / 290304000000000000 * (t ^ 8 * (1 - t) ^ 4)
      + 905005000318871771 / 870912000000000000 * (t ^ 9 * (1 - t) ^ 3)
      + 41319386619826201 / 96768000000000000 * (t ^ 10 * (1 - t) ^ 2)
      + 329982494858729 / 4608000000000000 * (t ^ 11 * (1 - t) ^ 1)
      + 3799064322353 / 4032000000000000 * (t ^ 12 * (1 - t) ^ 0) := by
    unfold bound top five
    ring
  rw [e]
  positivity

/-- On the numbers from 1 to 3 the cubic is near the logarithm. -/
theorem cubic_near {s : ℝ} (h1 : 1 ≤ s) (h3 : s ≤ 3) : |Real.log s - cubic s| ≤ bound := by
  obtain ⟨z, hz⟩ : ∃ z, z = (s - 2) / (s + 2) := ⟨_, rfl⟩
  have hl : -(1 / 3) ≤ z := by rw [hz, le_div_iff₀ (by linarith)]; linarith
  have hr : z ≤ 1 / 5 := by rw [hz, div_le_iff₀ (by linarith)]; linarith
  have hs : s = 2 * ((1 + z) / (1 - z)) := by
    have h2 : s + 2 ≠ 0 := by linarith
    have : 1 - z ≠ 0 := by linarith
    rw [hz] at this ⊢
    field_simp
    ring
  have hq : 0 < (1 + z) / (1 - z) := div_pos (by linarith) (by linarith)
  have hlog : Real.log s = Real.log 2 + Real.log ((1 + z) / (1 - z)) := by
    rw [hs, Real.log_mul (by norm_num) hq.ne']
  have h5 := abs_le.mp (five_near_abs (x := z) (abs_le.mpr ⟨by linarith, by linarith⟩))
  have hz' : 8 / 15 * (15 / 8 * (z + 1 / 3)) - 1 / 3 = z := by ring
  have a := above (15 / 8 * (z + 1 / 3)) (by linarith) (by linarith)
  have b := below (15 / 8 * (z + 1 / 3)) (by linarith) (by linarith)
  have hw : 0 < (1 - z) ^ 3 := pow_pos (by linarith) 3
  rw [hz', ← top_eq (by linarith), ← hs, ← sub_mul, ← add_mul] at a
  rw [hz', ← top_eq (by linarith), ← hs, ← sub_mul, ← sub_mul] at b
  have a' := nonneg_of_mul_nonneg_left a hw
  have b' := nonneg_of_mul_nonneg_left b hw
  have l2 := abs_le.mp log_two
  rw [hlog, abs_le]
  constructor <;> linarith

end Cert.Proof.Log
-- ==== Proof.Near.lean ====
/-
  The kernel's table and the true logarithm. At finite costs every cell of the table is a real number, the sum of
  exponentials behind it lies between 1 and 3, and there the cubic is near the logarithm: so a step of the recurrence with
  the true logarithm, made on the finished table, moves no cell by more than the bound.
-/
module

public import proofs.«01_k».proof.Proof.Log
public import proofs.«01_k».proof.Proof.Reference
public import proofs.«01_k».proof.Proof.Gen.Pre_finite
public import proofs.«01_k».proof.Proof.Gen.Post_near

@[expose] public section

noncomputable section

namespace Cert.Proof.Near

open Cert.ReferenceIdeal Cert.ReferenceIdeal.Gen Cert.ReferenceIdeal.Step
open Idealize.ShloMosaic Idealize.ShloMosaic.TcCoe Idealize.SL.Sem
open Cert.Proof.Table Cert.Proof.Equation Cert.Proof.Reference Cert.Proof.Log

/-! ## The constants -/

theorem k0_eq : k0 = ((-(5326865 / 4194304) : ℝ) : EReal) := by
  simp [k0, Ideal.ofBits, Ideal.ieee, -EReal.coe_mul, -EReal.coe_neg]; norm_num
theorem k1_eq : k1 = ((1750763 / 1048576 : ℝ) : EReal) := by
  simp [k1, Ideal.ofBits, Ideal.ieee, -EReal.coe_mul]; norm_num
theorem k2_eq : k2 = ((-(7463611 / 16777216) : ℝ) : EReal) := by
  simp [k2, Ideal.ofBits, Ideal.ieee, -EReal.coe_mul, -EReal.coe_neg]; norm_num
theorem k3_eq : k3 = ((13591793 / 268435456 : ℝ) : EReal) := by
  simp [k3, Ideal.ofBits, Ideal.ieee, -EReal.coe_mul]; norm_num
theorem bound_eq : Ideal.ofBits .f32 0x3BB43958#32 = (bound : EReal) := by
  simp [bound, Ideal.ofBits, Ideal.ieee, -EReal.coe_mul]; norm_num

/-! ## A cell of real numbers -/

theorem coe_max (a b : ℝ) : ((max a b : ℝ) : EReal) = max (a : EReal) (b : EReal) := EReal.coe_strictMono.monotone.map_max

theorem poly_coe (s : ℝ) : poly (s : EReal) = (cubic s : EReal) := by
  unfold poly cubic
  rw [k0_eq, k1_eq, k2_eq, k3_eq]
  norm_cast

theorem expSum_coe (a b c : ℝ) : ∃ s : ℝ, expSum a b c = (s : EReal) ∧ 1 ≤ s ∧ s ≤ 3 := by
  obtain ⟨m, hm⟩ : ∃ m, m = max a (max b c) := ⟨_, rfl⟩
  have ha : a ≤ m := hm ▸ le_max_left _ _
  have hb : b ≤ m := hm ▸ (le_max_left b c).trans (le_max_right _ _)
  have hc : c ≤ m := hm ▸ (le_max_right b c).trans (le_max_right _ _)
  have le1 : ∀ x, x ≤ m → Real.exp (x - m) ≤ 1 := fun x hx => Real.exp_le_one_iff.mpr (by linarith)
  have pos : ∀ x, 0 < Real.exp (x - m) := fun x => Real.exp_pos _
  refine ⟨Real.exp (a - m) + Real.exp (b - m) + Real.exp (c - m), ?_, ?_, ?_⟩
  · unfold expSum
    rw [← coe_max, ← coe_max, ← hm]
    rfl
  · have h : m = a ∨ m = b ∨ m = c := by
      rcases max_choice a (max b c) with h | h
      · exact .inl (hm.trans h)
      · rcases max_choice b c with h' | h'
        · exact .inr (.inl (hm.trans (h.trans h')))
        · exact .inr (.inr (hm.trans (h.trans h')))
    have top : ∀ x, m = x → Real.exp (x - m) = 1 := fun x hx => by rw [hx, sub_self, Real.exp_zero]
    rcases h with h | h | h
    · linarith [top a h, pos b, pos c]
    · linarith [top b h, pos a, pos c]
    · linarith [top c h, pos a, pos b]
  · linarith [le1 a ha, le1 b hb, le1 c hc]

theorem soft_coe (a b c : ℝ) : ∃ r : ℝ, soft a b c = (r : EReal) := by
  obtain ⟨s, hs, -⟩ := expSum_coe a b c
  exact ⟨cubic s + max a (max b c), by unfold soft; rw [hs, poly_coe, EReal.coe_add, coe_max, coe_max]⟩

/-- The true logarithm in the cubic's place moves a cell of real numbers by no more than the bound. -/
theorem soft_near (a b c : ℝ) : max (Ideal.log (expSum a b c) + max (a : EReal) (max (b : EReal) c) - soft a b c)
    (-(Ideal.log (expSum a b c) + max (a : EReal) (max (b : EReal) c) - soft a b c)) ≤ (bound : EReal) := by
  obtain ⟨s, hs, h1, h3⟩ := expSum_coe a b c
  have e : Ideal.log (expSum a b c) + max (a : EReal) (max (b : EReal) c) - soft a b c = ((Real.log s - cubic s : ℝ) : EReal) := by
    unfold soft
    rw [hs, poly_coe, Ideal.log_coe, if_neg (by linarith), ← coe_max, ← coe_max, ← EReal.coe_add, ← EReal.coe_add, ← EReal.coe_sub]
    congr 1
    ring
  rw [e, ← EReal.coe_neg, ← coe_max, EReal.coe_le_coe_iff]
  exact cubic_near h1 h3

/-! ## The table at finite costs -/

theorem mu_coe {W : Cert.KernelIdeal.S32768.Idx → EReal} (hW : ∀ p, ∃ r : ℝ, W p = (r : EReal)) :
    ∀ i j, ∃ r : ℝ, mu (F := Ideal) W i j = (r : EReal) := by
  have hneg : ∃ r : ℝ, negV (F := Ideal) = (r : EReal) := real_of_bits (b := 0xE0AD78EC#32) (by decide)
  intro i
  induction i with
  | zero =>
    intro j
    match j with
    | 0 => rw [mu]; exact real_of_bits (b := 0x00000000#32) (by decide)
    | j + 1 => rw [mu]; exact hneg
  | succ i ih =>
    intro j
    induction j with
    | zero => rw [mu]; exact hneg
    | succ j jh =>
      obtain ⟨d, hd⟩ := jh
      obtain ⟨s, hs⟩ := ih (j + 1)
      obtain ⟨t, ht⟩ := ih j
      obtain ⟨w, hw⟩ := hW (place (i * 256 + j))
      rw [mu, cell_eq, hd, hs, ht, hw, ← EReal.coe_add, ← EReal.coe_add, ← EReal.coe_add]
      exact soft_coe _ _ _

/-- A finite array. -/
theorem coe_of_finite {A : S8x128x256.Idx → EReal} (h : Cert.Pre_finite.fn (F := Ideal) A = fun _ => 1#1) (p : S8x128x256.Idx) :
    ∃ r : ℝ, A p = (r : EReal) := by
  have e : Ideal.cmp .olt (max (A p) (-A p)) (Ideal.ofBits .f32 0x7F800000#32) = 1#1 := congrFun h p
  have hinf : Ideal.ofBits .f32 0x7F800000#32 = ⊤ := by
    show Ideal.ieee 8 23 (0x7F800000#32 : BitVec 32) = ⊤
    unfold Ideal.ieee
    dsimp only
    rw [if_pos (by decide), if_pos (by decide), if_neg (by decide)]
  rw [hinf] at e
  have lt : max (A p) (-A p) < ⊤ := by
    by_contra hn
    simp [Ideal.cmp, hn] at e
  have h1 : A p ≠ ⊤ := fun hx => by rw [hx] at lt; simp at lt
  have h2 : A p ≠ ⊥ := fun hx => by rw [hx] at lt; simp at lt
  exact ⟨(A p).toReal, (EReal.coe_toReal h1 h2).symm⟩

/-- Once the table is settled, a trip makes it again. -/
theorem late (A : S8x128x256.Idx → EReal) (n : ℕ) (h : 383 ≤ n) : b35 n (states A n) = table A := by
  funext p
  idx_vars p
  rw [table_at, ← trip_inner]
  exact settled A p0 (n + 1) p1.succ p2.succ (.inr (.inr (by simp only [Fin.val_succ]; omega)))

theorem near_at (A : S8x128x256.Idx → EReal) (hA : ∀ p, ∃ r : ℝ, A p = (r : EReal)) :
    Cert.Post_near.fn (F := Ideal) A (table A) = fun _ => 1#1 := by
  have hs : Cert.Post_near.fn (F := Ideal) A (b35 383 (states A 383))
      = cmpf (F := Ideal) .ole (Host.absf (subf (addf (Host.log (b17 384 (states A 384))) (b11 384 (states A 384))) (b35 383 (states A 383))))
        (constant S8x128x256 .f32 0x3BB43958#32) := by
    rw [← states_cost A 384]
    rfl
  rw [← late A 383 le_rfl, hs, late A 383 le_rfl, ← late A 384 (by decide)]
  funext p
  idx_vars p
  pointwise
  rw [summed, greatest, Reference.inner]
  have real : ∀ (i : Fin 129) (j : Fin 257), ∃ r : ℝ, tab (states A 384) p0 i j = (r : EReal) := fun i j => by
    unfold tab
    rw [settled A p0 384 i j (by omega)]
    exact mu_coe (fun q => hA _) _ _
  obtain ⟨w, hw⟩ : ∃ r : ℝ, cost (states A 384) p0 p1 p2 = (r : EReal) := by
    unfold cost; rw [states_cost]; exact hA _
  obtain ⟨x, hx⟩ := real p1.castSucc p2.succ
  obtain ⟨y, hy⟩ := real p1.succ p2.castSucc
  obtain ⟨z, hz⟩ := real p1.castSucc p2.castSucc
  unfold Reference.above left corner
  rw [hx, hy, hz, hw, ← EReal.coe_add, ← EReal.coe_add, ← EReal.coe_add]
  have := soft_near (x + w) (y + w) (z + w)
  rw [← bound_eq] at this
  exact congrArg BitVec.ofBool (decide_eq_true this)

/-! ## The claims -/

theorem frame : Cert.quiescent_KernelIdeal_pre_finite := fun m ρ _ => Launch.frame_ideal m ρ trivial

theorem near : Cert.holds_KernelIdeal_near_pre_finite := fun m ρ hp =>
  (θ_run Cert.KernelIdeal.defs _ _).mono (fun r h c => ⟨(h.1 c).1, by
      have e : r.2.mem (Launch.rLoc c) = table (m (Launch.aLoc c)) := (h.1 c).2
      show Cert.Post_near.fn (F := Ideal) (m (Launch.aLoc c)) (r.2.mem (Launch.rLoc c)) = _
      rw [e]
      exact near_at _ (coe_of_finite (hp c))⟩)
    (Launch.run_main (F := Ideal) m ρ)

end Cert.Proof.Near
-- ==== Proof.lean ====
/-
  The proof of `Cert.Claim`: the kernel's run (Proof/Launch.lean) and the reference's (Proof/Reference.lean) end
  with the same table, and that table is near a step of the recurrence with the true logarithm (Proof/Near.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Launch
public import proofs.«01_k».proof.Proof.Reference
public import proofs.«01_k».proof.Proof.Near
public import proofs.«01_k».proof.Proof.Gen.ReferenceIdeal.StepRun
public import proofs.«01_k».proof.Proof.Gen.Pre_finite
public import proofs.«01_k».proof.Proof.Gen.Post_near
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    Cert.Post_near.Gen.facts, Launch.frame_kernel, Launch.frame_ideal, Near.frame, Reference.frame, trivial, Reference.algebraic,
    Near.near⟩

end Cert.Proof

end
